-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4096x128 : Shape := ⟨2, ![4096, 128]⟩
abbrev S16384x128 : Shape := ⟨2, ![16384, 128]⟩
abbrev S16384x16 : Shape := ⟨2, ![16384, 16]⟩
abbrev S128 : Shape := ⟨1, ![128]⟩
abbrev S_ : Shape := ⟨0, ![]⟩

class Facts : Prop where
  bcast_S_S4096x128 : S_.BroadcastsInDim S4096x128 (![] : Fin 0 → Fin S4096x128.rank)
  bcast_S_S16384x128 : S_.BroadcastsInDim S16384x128 (![] : Fin 0 → Fin S16384x128.rank)
  bcast_S_S128 : S_.BroadcastsInDim S128 (![] : Fin 0 → Fin S128.rank)

variable [Facts]

def fn {F : FTy → Type} [FloatOps F] (main_arg0 : FVec F S4096x128 .f32) (main_arg1 : FVec F S16384x128 .f32) (main_arg2 : FVec F S16384x16 .f32) (main_arg3 : FVec F S128 .f32) : IVec S4096x128 1 × IVec S16384x128 1 × IVec S128 1 :=
  let main_cst : FVec F S_ .f32 := constant S_ .f32 0x7F800000#32
  let main_v0 : FVec F S4096x128 .f32 := broadcastInDim S4096x128 ![] bcast_S_S4096x128 main_cst
  let main_v1 : IVec S4096x128 1 := cmpf .olt main_arg0 main_v0
  let main_cst_0 : FVec F S_ .f32 := constant S_ .f32 0x7F800000#32
  let main_v2 : FVec F S_ .f32 := Host.negf main_cst_0
  let main_v3 : FVec F S4096x128 .f32 := broadcastInDim S4096x128 ![] bcast_S_S4096x128 main_v2
  let main_v4 : IVec S4096x128 1 := cmpf .ogt main_arg0 main_v3
  let main_v5 : IVec S4096x128 1 := andi main_v1 main_v4
  let main_cst_1 : FVec F S_ .f32 := constant S_ .f32 0x7F800000#32
  let main_v6 : FVec F S16384x128 .f32 := broadcastInDim S16384x128 ![] bcast_S_S16384x128 main_cst_1
  let main_v7 : IVec S16384x128 1 := cmpf .olt main_arg1 main_v6
  let main_cst_2 : FVec F S_ .f32 := constant S_ .f32 0x7F800000#32
  let main_v8 : FVec F S_ .f32 := Host.negf main_cst_2
  let main_v9 : FVec F S16384x128 .f32 := broadcastInDim S16384x128 ![] bcast_S_S16384x128 main_v8
  let main_v10 : IVec S16384x128 1 := cmpf .ogt main_arg1 main_v9
  let main_v11 : IVec S16384x128 1 := andi main_v7 main_v10
  let main_cst_3 : FVec F S_ .f32 := constant S_ .f32 0x7F800000#32
  let main_v12 : FVec F S_ .f32 := Host.negf main_cst_3
  let main_v13 : FVec F S128 .f32 := broadcastInDim S128 ![] bcast_S_S128 main_v12
  let main_v14 : IVec S128 1 := cmpf .ogt main_arg3 main_v13
  (main_v5, main_v11, main_v14)
-- ==== Kernel.lean ====
abbrev S4096x128 : Shape := ⟨2, ![4096, 128]⟩
abbrev S16384x128 : Shape := ⟨2, ![16384, 128]⟩
abbrev S16384x16 : Shape := ⟨2, ![16384, 16]⟩
abbrev S128 : Shape := ⟨1, ![128]⟩
abbrev S128x16384 : Shape := ⟨2, ![128, 16384]⟩
abbrev S1x128 : Shape := ⟨2, ![1, 128]⟩
abbrev S_ : Shape := ⟨0, ![]⟩
abbrev S16384x1 : Shape := ⟨2, ![16384, 1]⟩
abbrev S16384x17 : Shape := ⟨2, ![16384, 17]⟩
abbrev S4096x16 : Shape := ⟨2, ![4096, 16]⟩
abbrev S256x128 : Shape := ⟨2, ![256, 128]⟩
abbrev S256x16 : Shape := ⟨2, ![256, 16]⟩
abbrev S256x16384 : Shape := ⟨2, ![256, 16384]⟩
abbrev S1x16384 : Shape := ⟨2, ![1, 16384]⟩
abbrev S128x1 : Shape := ⟨2, ![128, 1]⟩
abbrev S16384 : Shape := ⟨1, ![16384]⟩
abbrev S256 : Shape := ⟨1, ![256]⟩
abbrev S256x1 : Shape := ⟨2, ![256, 1]⟩
abbrev S256x1024 : Shape := ⟨2, ![256, 1024]⟩
abbrev S256x512 : Shape := ⟨2, ![256, 512]⟩
abbrev S256x256 : Shape := ⟨2, ![256, 256]⟩
abbrev S128x256 : Shape := ⟨2, ![128, 256]⟩
abbrev S64x256 : Shape := ⟨2, ![64, 256]⟩
abbrev S32x256 : Shape := ⟨2, ![32, 256]⟩
abbrev S16x256 : Shape := ⟨2, ![16, 256]⟩
abbrev S8x256 : Shape := ⟨2, ![8, 256]⟩
abbrev S4x256 : Shape := ⟨2, ![4, 256]⟩
abbrev S2x256 : Shape := ⟨2, ![2, 256]⟩
abbrev S1x256 : Shape := ⟨2, ![1, 256]⟩
abbrev S256x17 : Shape := ⟨2, ![256, 17]⟩

abbrev nBuf : Space → Nat
  | .hbm => 10
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S16384x128, .f32⟩
  | .hbm, ⟨2, _⟩ => ⟨S16384x16, .f32⟩
  | .hbm, ⟨3, _⟩ => ⟨S128, .f32⟩
  | .hbm, ⟨4, _⟩ => ⟨S128x16384, .f32⟩
  | .hbm, ⟨5, _⟩ => ⟨S1x128, .f32⟩
  | .hbm, ⟨6, _⟩ => ⟨S_, .f32⟩
  | .hbm, ⟨7, _⟩ => ⟨S16384x1, .f32⟩
  | .hbm, ⟨8, _⟩ => ⟨S16384x17, .f32⟩
  | .hbm, ⟨9, _⟩ => ⟨S4096x16, .f32⟩
  | .local _ .vmem, ⟨0, _⟩ => ⟨S256x128, .f32⟩
  | .local _ .vmem, ⟨1, _⟩ => ⟨S256x128, .f32⟩
  | .local _ .vmem, ⟨2, _⟩ => ⟨S128x16384, .f32⟩
  | .local _ .vmem, ⟨3, _⟩ => ⟨S16384x17, .f32⟩
  | .local _ .vmem, ⟨4, _⟩ => ⟨S1x128, .f32⟩
  | .local _ .vmem, ⟨5, _⟩ => ⟨S256x16, .f32⟩
  | .local _ .vmem, ⟨6, _⟩ => ⟨S256x16, .f32⟩
  | .local _ .vmem, ⟨7, _⟩ => ⟨S256x16384, .f32⟩
  | .local _ .vmem, ⟨8, _⟩ => ⟨S1x16384, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x17 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x128 : Shape := ⟨2, ![4096, 128]⟩
abbrev S16384x128 : Shape := ⟨2, ![16384, 128]⟩
abbrev S16384x16 : Shape := ⟨2, ![16384, 16]⟩
abbrev S128 : Shape := ⟨1, ![128]⟩
abbrev S1x128 : Shape := ⟨2, ![1, 128]⟩
abbrev S_ : Shape := ⟨0, ![]⟩
abbrev S4096 : Shape := ⟨1, ![4096]⟩
abbrev S16384 : Shape := ⟨1, ![16384]⟩
abbrev S4096x1 : Shape := ⟨2, ![4096, 1]⟩
abbrev S1x16384 : Shape := ⟨2, ![1, 16384]⟩
abbrev S4096x16384 : Shape := ⟨2, ![4096, 16384]⟩
abbrev S128x16384 : Shape := ⟨2, ![128, 16384]⟩
abbrev S4096x16 : Shape := ⟨2, ![4096, 16]⟩

abbrev nBuf : Space → Nat
  | .hbm => 58
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S16384x128, .f32⟩
  | .hbm, ⟨2, _⟩ => ⟨S16384x16, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S4096x128, .f32⟩
  | .hbm, ⟨7, _⟩ => ⟨S4096x128, .f32⟩
  | .hbm, ⟨8, _⟩ => ⟨S128, .f32⟩
  | .hbm, ⟨9, _⟩ => ⟨S1x128, .f32⟩
  | .hbm, ⟨10, _⟩ => ⟨S16384x128, .f32⟩
  | .hbm, ⟨11, _⟩ => ⟨S16384x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S16384x128, .f32⟩
  | .hbm, ⟨16, _⟩ => ⟨S_, .f32⟩
  | .hbm, ⟨17, _⟩ => ⟨S16384, .f32⟩
  | .hbm, ⟨18, _⟩ => ⟨S4096x1, .f32⟩
  | .hbm, ⟨19, _⟩ => ⟨S1x16384, .f32⟩
  | .hbm, ⟨20, _⟩ => ⟨S4096x16384, .f32⟩
  | .hbm, ⟨21, _⟩ => ⟨S4096x16384, .f32⟩
  | .hbm, ⟨22, _⟩ => ⟨S4096x16384, .f32⟩
  | .hbm, ⟨23, _⟩ => ⟨S128x16384, .f32⟩
  | .hbm, ⟨24, _⟩ => ⟨S4096x16384, .f32⟩
  | .hbm, ⟨25, _⟩ => ⟨S_, .f32⟩
  | .hbm, ⟨26, _⟩ => ⟨S4096x16384, .f32⟩
  | .hbm, ⟨27, _⟩ => ⟨S4096x16384, .f32⟩
  | .hbm, ⟨28, _⟩ => ⟨S4096x16384, .f32⟩
  | .hbm, ⟨29, _⟩ => ⟨S_, .f32⟩
  | .hbm, ⟨30, _⟩ => ⟨S4096x16384, .f32⟩
  | .hbm, ⟨31, _⟩ => ⟨S4096x16384, .f32⟩
  | .hbm, ⟨32, _⟩ => ⟨S_, .f32⟩
  | .hbm, ⟨33, _⟩ => ⟨S4096x16384, .f32⟩
  | .hbm, ⟨34, _⟩ => ⟨S4096x16384, .f32⟩
  | .hbm, ⟨35, _⟩ => ⟨S_, .f32⟩
  | .hbm, ⟨36, _⟩ => ⟨S4096x16384, .f32⟩
  | .hbm, ⟨37, _⟩ => ⟨S4096x16384, .f32⟩
  | .hbm, ⟨38, _⟩ => ⟨S_, .f32⟩
  | .hbm, ⟨39, _⟩ => ⟨S4096x16384, .f32⟩
  | .hbm, ⟨40, _⟩ => ⟨S4096x16384, .f32⟩
  | .hbm, ⟨41, _⟩ => ⟨S4096x16, .f32⟩
  | .hbm, ⟨42, _⟩ => ⟨S4096x16, .i32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x16384, .f32⟩
  | .hbm, ⟨47, _⟩ => ⟨S4096x16384, .i1⟩
  | .hbm, ⟨48, _⟩ => ⟨S_, .f32⟩
  | .hbm, ⟨49, _⟩ => ⟨S_, .f32⟩
  | .hbm, ⟨50, _⟩ => ⟨S4096x16384, .f32⟩
  | .hbm, ⟨51, _⟩ => ⟨S4096x16384, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x16384, .f32⟩
  | .hbm, ⟨56, _⟩ => ⟨S4096x16384, .f32⟩
  | .hbm, ⟨57, _⟩ => ⟨S4096x16, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_values : Ref sig .tc := ⟨.hbm, 41, rfl⟩
abbrev main_indices : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_call0_v0 : Ref sig .tc := ⟨.hbm, 49, rfl⟩
abbrev main_call0_v1 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Proof.Algebra.lean ====
module

public import Idealize.ShloMosaic.Lib.Pointwise

@[expose] public section

noncomputable section

/-!
  The extended-real algebra that joins the two programs: the squared distance by one scaled product or by scaled operands, the
  inverse square root by either operation, and the division inside or outside the weighted sum.
-/

namespace Cert.KernelIdeal.Select

open Idealize.ShloMosaic

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A nonnegative real factor goes through any sum of extended reals. -/
theorem coe_mul_sum {ι : Type*} (s : Finset ι) (f : ι → EReal) {p : ℝ} (hp : 0 ≤ p) :
    (p : EReal) * ∑ i ∈ s, f i = ∑ i ∈ s, (p : EReal) * f i := by
  classical
  induction s using Finset.induction_on with
  | empty => exact mul_zero _
  | insert a s ha ih => rw [Finset.sum_insert ha, Finset.sum_insert ha, EReal.left_distrib_of_nonneg_of_ne_top (EReal.coe_nonneg.mpr hp) (EReal.coe_ne_top p), ih]

/-- The word of minus two. -/
theorem word_neg_two : Ideal.ofBits .f32 0xC0000000#32 = ((-2 : ℝ) : EReal) := by
  simp [Ideal.ofBits, Ideal.ieee]; rw [← EReal.coe_mul]; norm_num

/-- The word of two. -/
theorem word_two : Ideal.ofBits .f32 0x40000000#32 = ((2 : ℝ) : EReal) := by
  simp [Ideal.ofBits, Ideal.ieee]; rw [← EReal.coe_mul]; norm_num

/-- The word of one half. -/
theorem word_half : Ideal.ofBits .f32 0x3F000000#32 = ((1 / 2 : ℝ) : EReal) := by
  simp [Ideal.ofBits, Ideal.ieee]; rw [← EReal.coe_mul]; norm_num

/-- The word of plus infinity. -/
theorem word_inf : Ideal.ofBits .f32 0x7F800000#32 = (⊤ : EReal) := by
  simp [Ideal.ofBits, Ideal.ieee]

/-- The word added under the root is a positive real. -/
theorem word_eps : ∃ e : ℝ, 0 < e ∧ Ideal.ofBits .f32 0x358637BD#32 = (e : EReal) := by
  refine ⟨_, ?_, by simp [Ideal.ofBits, Ideal.ieee]; rfl⟩
  norm_num

/-- The scale of one feature: where the log length scale is above minus infinity there is a real `c` by which the reference's
division scales, and whose square is the kernel's squared scale. -/
theorem scale_eq {w : EReal} (hw : w ≠ ⊥) : ∃ c : ℝ, Ideal.exp (Ideal.ofBits .f32 0xC0000000#32 * w) = ((c * c : ℝ) : EReal) ∧
    ∀ x : ℝ, Ideal.div (x : EReal) (Ideal.exp w) = ((x * c : ℝ) : EReal) := by
  rw [word_neg_two]
  induction w using EReal.rec with
  | bot => exact absurd rfl hw
  | top =>
    refine ⟨0, ?_, fun x => ?_⟩
    · rw [EReal.coe_mul_top_of_neg (by norm_num)]
      rw [mul_zero]; rfl
    · show Ideal.div (x : EReal) ⊤ = _
      unfold Ideal.div
      rw [if_neg (by simp), EReal.inv_top, mul_zero, mul_zero, EReal.coe_zero]
  | coe r =>
    refine ⟨(Real.exp r)⁻¹, ?_, fun x => ?_⟩
    · rw [← EReal.coe_mul]
      show ((Real.exp (-2 * r) : ℝ) : EReal) = _
      rw [← Real.exp_neg, ← Real.exp_add]
      congr 2; ring
    · show Ideal.div (x : EReal) ((Real.exp r : ℝ) : EReal) = _
      unfold Ideal.div
      rw [if_neg (by exact_mod_cast (Real.exp_pos r).ne'), ← EReal.coe_inv, EReal.coe_mul]

/-- The inverse square root by the two operations. -/
theorem rsqrt_eq {r : ℝ} (hr : 0 < r) : Ideal.rsqrt (r : EReal) = (((Real.sqrt r)⁻¹ : ℝ) : EReal) ∧
    Ideal.div 1 (Ideal.pow (r : EReal) (Ideal.ofBits .f32 0x3F000000#32)) = (((Real.sqrt r)⁻¹ : ℝ) : EReal) := by
  have hs : 0 < Real.sqrt r := Real.sqrt_pos.mpr hr
  refine ⟨?_, ?_⟩
  · show (if r < 0 then (⊥ : EReal) else if r = 0 then ⊤ else (((Real.sqrt r)⁻¹ : ℝ) : EReal)) = _
    rw [if_neg hr.not_gt, if_neg hr.ne']
  · rw [word_half]
    show Ideal.div 1 ((Real.rpow r (1 / 2) : ℝ) : EReal) = _
    rw [show Real.rpow r (1 / 2) = Real.sqrt r from (Real.sqrt_eq_rpow r).symm]
    unfold Ideal.div
    rw [if_neg (by exact_mod_cast hs.ne'), ← EReal.coe_inv, one_mul]

/-- The kernel's inverse distance of a query `x` and a training point `t` under log length scales `w`. -/
def kernelDist (x t w : Fin 128 → EReal) : EReal := Ideal.rsqrt (max
  (∑ k, x k * (x k * Ideal.exp (Ideal.ofBits .f32 0xC0000000#32 * w k)) +
    ∑ k, t k * t k * Ideal.exp (Ideal.ofBits .f32 0xC0000000#32 * w k) +
    ∑ k, Ideal.ofBits .f32 0xC0000000#32 * (x k * Ideal.exp (Ideal.ofBits .f32 0xC0000000#32 * w k)) * t k) 0 +
  Ideal.ofBits .f32 0x358637BD#32)

/-- The reference's inverse distance. -/
def referenceDist (x t w : Fin 128 → EReal) : EReal := Ideal.div 1 (Ideal.pow (max
  (∑ k, Ideal.div (x k) (Ideal.exp (w k)) * Ideal.div (x k) (Ideal.exp (w k)) +
    ∑ k, Ideal.div (t k) (Ideal.exp (w k)) * Ideal.div (t k) (Ideal.exp (w k)) -
    Ideal.ofBits .f32 0x40000000#32 * ∑ k, Ideal.div (x k) (Ideal.exp (w k)) * Ideal.div (t k) (Ideal.exp (w k))) 0 +
  Ideal.ofBits .f32 0x358637BD#32) (Ideal.ofBits .f32 0x3F000000#32))

/-- Of finite points both inverse distances are the same positive real. -/
theorem dist_eq {x t w : Fin 128 → EReal} (hx : ∀ k, x k ≠ ⊤ ∧ x k ≠ ⊥) (ht : ∀ k, t k ≠ ⊤ ∧ t k ≠ ⊥) (hw : ∀ k, w k ≠ ⊥) :
    ∃ r : ℝ, 0 < r ∧ kernelDist x t w = (r : EReal) ∧ referenceDist x t w = (r : EReal) := by
  choose c hc hd using fun k => scale_eq (hw k)
  lift x to Fin 128 → ℝ using hx
  lift t to Fin 128 → ℝ using ht
  obtain ⟨e, he, hw'⟩ := word_eps
  have hs : 0 < max (∑ k, x k * (x k * (c k * c k)) + ∑ k, t k * t k * (c k * c k) + ∑ k, -2 * (x k * (c k * c k)) * t k) 0 + e :=
    add_pos_of_nonneg_of_pos (le_max_right _ _) he
  obtain ⟨h₁, h₂⟩ := rsqrt_eq hs
  refine ⟨_, inv_pos.mpr (Real.sqrt_pos.mpr hs), ?_, ?_⟩
  · rw [← h₁]
    unfold kernelDist
    simp only [hc]
    simp only [hw', word_neg_two, coe_sum, EReal.coe_add, EReal.coe_mul, EReal.coe_strictMono.monotone.map_max, EReal.coe_zero]
  · rw [← h₂]
    have key : ∑ k, x k * (x k * (c k * c k)) + ∑ k, t k * t k * (c k * c k) + ∑ k, -2 * (x k * (c k * c k)) * t k =
        ∑ k, x k * c k * (x k * c k) + ∑ k, t k * c k * (t k * c k) - 2 * ∑ k, x k * c k * (t k * c k) := by
      rw [Finset.mul_sum, ← Finset.sum_add_distrib, ← Finset.sum_add_distrib, ← Finset.sum_add_distrib, ← Finset.sum_sub_distrib]
      exact Finset.sum_congr rfl fun k _ => by ring
    rw [key]
    unfold referenceDist
    simp only [hd, hw', word_two, coe_sum, EReal.coe_add, EReal.coe_sub, EReal.coe_mul, EReal.coe_strictMono.monotone.map_max,
      EReal.coe_zero]

/-- Weights that are nonnegative reals and not all zero may be divided by their sum before or after the weighted sum. -/
theorem weights_eq {ι : Type*} [Fintype ι] (a : ι → ℝ) (y : ι → EReal) (h0 : ∀ j, 0 ≤ a j) (h1 : ∃ j, 0 < a j) :
    Ideal.div (∑ j, (a j : EReal) * y j) (∑ j, (a j : EReal) * 1) = ∑ j, Ideal.div (a j : EReal) (∑ i, (a i : EReal)) * y j := by
  obtain ⟨j, hj⟩ := h1
  have hS : 0 < ∑ j, a j := Finset.sum_pos' (fun i _ => h0 i) ⟨j, Finset.mem_univ j, hj⟩
  simp only [mul_one]
  rw [← coe_sum]
  unfold Ideal.div
  have hne : ((∑ j, a j : ℝ) : EReal) ≠ 0 := by exact_mod_cast hS.ne'
  simp only [if_neg hne, ← EReal.coe_inv]
  rw [mul_comm, coe_mul_sum _ _ (inv_nonneg.mpr hS.le)]
  refine Finset.sum_congr rfl fun j _ => ?_
  rw [← mul_assoc, mul_comm (((∑ j, a j)⁻¹ : ℝ) : EReal)]

end Cert.KernelIdeal.Select

end
-- ==== Proof.Given.lean ====
module

public import proofs.«01_k».proof.Proof.Algebra
public import proofs.«01_k».proof.Pre_finite_inputs
public import Idealize.ShloMosaic.Lib.Pointwise

@[expose] public section

noncomputable section

/-!
  What the precondition says of the arguments' elements.
-/

namespace Cert.Pre_finite_inputs

open Idealize.ShloMosaic
open Cert.KernelIdeal.Select (word_inf)

/-- The precondition's side conditions hold. -/
theorem facts : Facts := ⟨by decide, by decide, by decide⟩

/-- Comparing below the word of plus infinity and above its negation gives one exactly for a real number; here, that one
means it is neither infinity. -/
theorem ne_of_both {a : EReal} (h : Ideal.cmp .olt a (Ideal.ofBits .f32 0x7F800000#32) &&&
    Ideal.cmp .ogt a (-Ideal.ofBits .f32 0x7F800000#32) = 1#1) : a ≠ ⊤ ∧ a ≠ ⊥ := by
  rw [word_inf] at h
  refine ⟨fun e => ?_, fun e => ?_⟩ <;> subst e <;> simp [Ideal.cmp] at h

/-- Comparing above the negated word of plus infinity: one means not minus infinity. -/
theorem ne_of_above {a : EReal} (h : Ideal.cmp .ogt a (-Ideal.ofBits .f32 0x7F800000#32) = 1#1) : a ≠ ⊥ := by
  rw [word_inf] at h
  intro e
  subst e
  simp [Ideal.cmp] at h

variable [Facts] (x : FVec Ideal S4096x128 .f32) (t : FVec Ideal S16384x128 .f32) (y : FVec Ideal S16384x16 .f32)
  (w : FVec Ideal S128 .f32)

/-- The queries are real. -/
theorem queries_real (h : (fn x t y w).1 = fun _ => 1#1) (i : S4096x128.Idx) : (x i : EReal) ≠ ⊤ ∧ (x i : EReal) ≠ ⊥ :=
  ne_of_both (congrFun h i)

/-- The training points are real. -/
theorem points_real (h : (fn x t y w).2.1 = fun _ => 1#1) (i : S16384x128.Idx) : (t i : EReal) ≠ ⊤ ∧ (t i : EReal) ≠ ⊥ :=
  ne_of_both (congrFun h i)

/-- No log length scale is minus infinity. -/
theorem scales_ne (h : (fn x t y w).2.2 = fun _ => 1#1) (i : S128.Idx) : (w i : EReal) ≠ ⊥ :=
  ne_of_above (congrFun h i)

end Cert.Pre_finite_inputs

end
-- ==== Proof.Net.lean ====
module

public import proofs.«01_k».proof.Proof.Gen.KernelIdeal.Skeleton
public import Idealize.ShloMosaic.Lib.SortNet.OddEvenSort

@[expose] public section

noncomputable section

/-!
  Compare-exchange networks over sixteen VECTORS: each exchange takes the elementwise greater of two vectors to the earlier
  position and the elementwise lesser to the later one. The kernel's selection is such a network, then folds of the upper half of
  every vector onto the lower half.
-/

namespace Cert.KernelIdeal.Select

open Idealize.ShloMosaic Idealize.ShloMosaic.SortNet

variable {F : FTy → Type} [FloatOps F] {s : Shape}

/-- One exchange of a family of sixteen vectors. -/
def exchange (c : Cmpx 16) (l : Fin 16 → FVec F s .f32) : Fin 16 → FVec F s .f32 := fun k =>
  if k = c.hi then maximumf (l c.hi) (l c.lo) else if k = c.lo then minimumf (l c.hi) (l c.lo) else l k

/-- The exchanges of a network, first to last. -/
def network (N : Network 16) (l : Fin 16 → FVec F s .f32) : Fin 16 → FVec F s .f32 :=
  N.foldl (fun l c => exchange c l) l

/-- Batcher's sort of sixteen, greatest first: the exchanges. -/
def sortNet : Network 16 :=
  [⟨1, 0, by decide⟩, ⟨3, 2, by decide⟩, ⟨5, 4, by decide⟩, ⟨7, 6, by decide⟩, ⟨9, 8, by decide⟩, ⟨11, 10, by decide⟩,
    ⟨13, 12, by decide⟩, ⟨15, 14, by decide⟩, ⟨2, 0, by decide⟩, ⟨3, 1, by decide⟩, ⟨6, 4, by decide⟩, ⟨7, 5, by decide⟩,
    ⟨10, 8, by decide⟩, ⟨11, 9, by decide⟩, ⟨14, 12, by decide⟩, ⟨15, 13, by decide⟩, ⟨2, 1, by decide⟩, ⟨6, 5, by decide⟩,
    ⟨10, 9, by decide⟩, ⟨14, 13, by decide⟩, ⟨4, 0, by decide⟩, ⟨5, 1, by decide⟩, ⟨6, 2, by decide⟩, ⟨7, 3, by decide⟩,
    ⟨12, 8, by decide⟩, ⟨13, 9, by decide⟩, ⟨14, 10, by decide⟩, ⟨15, 11, by decide⟩, ⟨4, 2, by decide⟩, ⟨5, 3, by decide⟩,
    ⟨12, 10, by decide⟩, ⟨13, 11, by decide⟩, ⟨2, 1, by decide⟩, ⟨4, 3, by decide⟩, ⟨6, 5, by decide⟩, ⟨10, 9, by decide⟩,
    ⟨12, 11, by decide⟩, ⟨14, 13, by decide⟩, ⟨8, 0, by decide⟩, ⟨9, 1, by decide⟩, ⟨10, 2, by decide⟩, ⟨11, 3, by decide⟩,
    ⟨12, 4, by decide⟩, ⟨13, 5, by decide⟩, ⟨14, 6, by decide⟩, ⟨15, 7, by decide⟩, ⟨8, 4, by decide⟩, ⟨9, 5, by decide⟩,
    ⟨10, 6, by decide⟩, ⟨11, 7, by decide⟩, ⟨4, 2, by decide⟩, ⟨5, 3, by decide⟩, ⟨8, 6, by decide⟩, ⟨9, 7, by decide⟩,
    ⟨12, 10, by decide⟩, ⟨13, 11, by decide⟩, ⟨2, 1, by decide⟩, ⟨4, 3, by decide⟩, ⟨6, 5, by decide⟩, ⟨8, 7, by decide⟩,
    ⟨10, 9, by decide⟩, ⟨12, 11, by decide⟩, ⟨14, 13, by decide⟩]

/-- The bitonic merge of sixteen, greatest first: the exchanges. -/
def mergeNet : Network 16 :=
  [⟨8, 0, by decide⟩, ⟨9, 1, by decide⟩, ⟨10, 2, by decide⟩, ⟨11, 3, by decide⟩, ⟨12, 4, by decide⟩, ⟨13, 5, by decide⟩,
    ⟨14, 6, by decide⟩, ⟨15, 7, by decide⟩, ⟨4, 0, by decide⟩, ⟨5, 1, by decide⟩, ⟨6, 2, by decide⟩, ⟨7, 3, by decide⟩,
    ⟨12, 8, by decide⟩, ⟨13, 9, by decide⟩, ⟨14, 10, by decide⟩, ⟨15, 11, by decide⟩, ⟨2, 0, by decide⟩, ⟨3, 1, by decide⟩,
    ⟨6, 4, by decide⟩, ⟨7, 5, by decide⟩, ⟨10, 8, by decide⟩, ⟨11, 9, by decide⟩, ⟨14, 12, by decide⟩, ⟨15, 13, by decide⟩,
    ⟨1, 0, by decide⟩, ⟨3, 2, by decide⟩, ⟨5, 4, by decide⟩, ⟨7, 6, by decide⟩, ⟨9, 8, by decide⟩, ⟨11, 10, by decide⟩,
    ⟨13, 12, by decide⟩, ⟨15, 14, by decide⟩]

/-- The exchanges of the sort are Batcher's. -/
theorem sortNet_eq : sortNet = oddEvenNet 4 := by decide

/-- The exchanges of the merge are the bitonic merge's. -/
theorem mergeNet_eq : mergeNet = mergeDescNet 4 := by
  rw [← mergePairsNet_eq_mergeDescNet]; decide

/-- The elementwise greater of the lower part of vector `i` and the upper part of vector `15 - i`: what a fold starts from. -/
def folded {s' : Shape} (o₁ o₂ : Fin s.rank → Nat) (h₁ : s.Slices o₁ s') (h₂ : s.Slices o₂ s')
    (l : Fin 16 → FVec F s .f32) : Fin 16 → FVec F s' .f32 := fun i =>
  maximumf (extractStridedSlice s' o₁ (l i) h₁) (extractStridedSlice s' o₂ (l i.rev) h₂)

/-- A fold: the greater of the two parts, position by position, merged back into descending order. -/
def fold {s' : Shape} (o₁ o₂ : Fin s.rank → Nat) (h₁ : s.Slices o₁ s') (h₂ : s.Slices o₂ s')
    (l : Fin 16 → FVec F s .f32) : Fin 16 → FVec F s' .f32 := network mergeNet (folded o₁ o₂ h₁ h₂ l)

/-- The elementwise least of sixteen vectors, taken in halves. -/
def least (l : Fin 16 → FVec F s .f32) : FVec F s .f32 :=
  let m8 : Fin 8 → FVec F s .f32 := fun j => minimumf (l ⟨j, by omega⟩) (l ⟨j + 8, by omega⟩)
  let m4 : Fin 4 → FVec F s .f32 := fun j => minimumf (m8 ⟨j, by omega⟩) (m8 ⟨j + 4, by omega⟩)
  let m2 : Fin 2 → FVec F s .f32 := fun j => minimumf (m4 ⟨j, by omega⟩) (m4 ⟨j + 2, by omega⟩)
  minimumf (m2 0) (m2 1)

end Cert.KernelIdeal.Select

end
-- ==== Proof.Held.lean ====
module

public import proofs.«01_k».proof.Proof.Gen.KernelIdeal.Skeleton

@[expose] public section

noncomputable section

/-!
  The intermediate vectors of the selection, each as a function of the block of inverse distances `d` the kernel stored and
  read back. The body is printed in parts; a vector that crosses from one part to the next is named here by its number in the
  printed body. `stage0` to `stage10` then group the sixteen sorted vectors the kernel holds after each step.
-/

namespace Cert.KernelIdeal.Select

open Idealize.ShloMosaic Cert.KernelIdeal Cert.KernelIdeal.Gen

variable {F : FTy → Type} [FloatOps F] (d : Vec F S256x16384 .f32)

def v34 : FVec F S256x1024 .f32 := k0_pay5 d
def v35 : FVec F S256x1024 .f32 := k0_pay6 d
def v36 : FVec F S256x1024 .f32 := k0_pay7 d
def v46 : FVec F S256x1024 .f32 := k0_pay17 d
def v47 : FVec F S256x1024 .f32 := k0_pay18 d
def v48 : FVec F S256x1024 .f32 := k0_pay19 d
def v49 : FVec F S256x1024 .f32 := k0_pay20 d
def v70 : FVec F S256x1024 .f32 := k0_pay41 d (v34 d) (v35 d) (v36 d)
def v79 : FVec F S256x1024 .f32 := k0_pay50 d (v34 d) (v35 d) (v36 d)
def v82 : FVec F S256x1024 .f32 := k0_pay53 d (v34 d) (v35 d) (v36 d)
def v83 : FVec F S256x1024 .f32 := k0_pay54 d (v34 d) (v35 d) (v36 d)
def v84 : FVec F S256x1024 .f32 := k0_pay55 d (v34 d) (v35 d) (v36 d)
def v85 : FVec F S256x1024 .f32 := k0_pay56 d (v34 d) (v35 d) (v36 d)
def v86 : FVec F S256x1024 .f32 := k0_pay57 d (v34 d) (v35 d) (v36 d)
def v87 : FVec F S256x1024 .f32 := k0_pay58 d (v34 d) (v35 d) (v36 d)
def v92 : FVec F S256x1024 .f32 := k0_pay63 d
def v93 : FVec F S256x1024 .f32 := k0_pay64 d
def v94 : FVec F S256x1024 .f32 := k0_pay65 d
def v95 : FVec F S256x1024 .f32 := k0_pay66 d
def v96 : FVec F S256x1024 .f32 := k0_pay67 d
def v126 : FVec F S256x1024 .f32 := k0_pay97 (v46 d) (v47 d) (v48 d) (v49 d) (v70 d) (v92 d)
def v135 : FVec F S256x1024 .f32 := k0_pay106 (v46 d) (v47 d) (v48 d) (v49 d) (v87 d) (v93 d) (v94 d) (v95 d) (v96 d)
def v138 : FVec F S256x1024 .f32 := k0_pay109 (v46 d) (v47 d) (v48 d) (v49 d) (v70 d) (v83 d) (v85 d) (v92 d) (v93 d) (v94 d) (v95 d) (v96 d)
def v139 : FVec F S256x1024 .f32 := k0_pay110 (v46 d) (v47 d) (v48 d) (v49 d) (v70 d) (v83 d) (v85 d) (v92 d) (v93 d) (v94 d) (v95 d) (v96 d)
def v140 : FVec F S256x1024 .f32 := k0_pay111 (v46 d) (v47 d) (v48 d) (v49 d) (v70 d) (v83 d) (v85 d) (v87 d) (v92 d) (v93 d) (v94 d) (v95 d) (v96 d)
def v141 : FVec F S256x1024 .f32 := k0_pay112 (v46 d) (v47 d) (v48 d) (v49 d) (v70 d) (v83 d) (v85 d) (v87 d) (v92 d) (v93 d) (v94 d) (v95 d) (v96 d)
def v142 : FVec F S256x1024 .f32 := k0_pay113 (v46 d) (v47 d) (v48 d) (v49 d) (v83 d) (v85 d) (v87 d) (v92 d) (v93 d) (v94 d) (v95 d) (v96 d)
def v143 : FVec F S256x1024 .f32 := k0_pay114 (v46 d) (v47 d) (v48 d) (v49 d) (v83 d) (v85 d) (v87 d) (v92 d) (v93 d) (v94 d) (v95 d) (v96 d)
def v144 : FVec F S256x1024 .f32 := k0_pay115 (v46 d) (v47 d) (v48 d) (v49 d) (v82 d) (v92 d) (v93 d) (v94 d) (v96 d)
def v147 : FVec F S256x1024 .f32 := k0_pay118 (v46 d) (v47 d) (v48 d) (v49 d) (v86 d) (v93 d) (v94 d) (v95 d) (v96 d)
def v148 : FVec F S256x1024 .f32 := k0_pay119 (v46 d) (v47 d) (v48 d) (v49 d) (v82 d) (v86 d) (v92 d) (v93 d) (v94 d) (v95 d) (v96 d)
def v149 : FVec F S256x1024 .f32 := k0_pay120 (v46 d) (v47 d) (v48 d) (v49 d) (v82 d) (v86 d) (v92 d) (v93 d) (v94 d) (v95 d) (v96 d)
def v150 : FVec F S256x1024 .f32 := k0_pay121 (v46 d) (v47 d) (v48 d) (v49 d) (v84 d) (v92 d) (v93 d) (v94 d) (v95 d) (v96 d)
def v153 : FVec F S256x1024 .f32 := k0_pay124 (v46 d) (v47 d) (v48 d) (v49 d) (v79 d) (v95 d)
def v154 : FVec F S256x1024 .f32 := k0_pay125 (v46 d) (v47 d) (v48 d) (v49 d) (v79 d) (v84 d) (v92 d) (v93 d) (v94 d) (v95 d) (v96 d)
def v155 : FVec F S256x1024 .f32 := k0_pay126 (v46 d) (v47 d) (v48 d) (v49 d) (v79 d) (v84 d) (v92 d) (v93 d) (v94 d) (v95 d) (v96 d)
def v156 : FVec F S256x1024 .f32 := k0_pay127 (v46 d) (v47 d) (v48 d) (v49 d) (v82 d) (v84 d) (v86 d) (v92 d) (v93 d) (v94 d) (v95 d) (v96 d)
def v185 : FVec F S256x512 .f32 := k0_pay147 (v142 d) (v149 d) (v154 d)
def v186 : FVec F S256x512 .f32 := k0_pay148 (v142 d) (v149 d) (v154 d)
def v187 : FVec F S256x512 .f32 := k0_pay149 (v143 d) (v147 d) (v155 d)
def v188 : FVec F S256x512 .f32 := k0_pay150 (v143 d) (v147 d) (v155 d)
def v189 : FVec F S256x512 .f32 := k0_pay151 (v135 d) (v147 d) (v155 d)
def v190 : FVec F S256x512 .f32 := k0_pay152 (v135 d) (v147 d) (v155 d)
def v191 : FVec F S256x512 .f32 := k0_pay153 (v153 d)
def v192 : FVec F S256x512 .f32 := k0_pay154 (v126 d)
def v193 : FVec F S256x512 .f32 := k0_pay155 (v138 d) (v144 d)
def v194 : FVec F S256x512 .f32 := k0_pay156 (v138 d) (v144 d)
def v195 : FVec F S256x512 .f32 := k0_pay157 (v139 d) (v156 d)
def v196 : FVec F S256x512 .f32 := k0_pay158 (v139 d) (v156 d)
def v197 : FVec F S256x512 .f32 := k0_pay159 (v140 d) (v148 d) (v150 d)
def v198 : FVec F S256x512 .f32 := k0_pay160 (v140 d) (v148 d) (v150 d)
def v208 : FVec F S256x512 .f32 := k0_pay161 (v126 d) (v153 d)
def v209 : FVec F S256x512 .f32 := k0_pay162 (v135 d) (v138 d) (v144 d) (v147 d) (v155 d)
def v210 : FVec F S256x512 .f32 := k0_pay163 (v135 d) (v138 d) (v144 d) (v147 d) (v155 d)
def v211 : FVec F S256x512 .f32 := k0_pay164 (v139 d) (v143 d) (v147 d) (v155 d) (v156 d)
def v212 : FVec F S256x512 .f32 := k0_pay165 (v139 d) (v143 d) (v147 d) (v155 d) (v156 d)
def v213 : FVec F S256x512 .f32 := k0_pay166 (v140 d) (v142 d) (v148 d) (v149 d) (v150 d) (v154 d)
def v214 : FVec F S256x512 .f32 := k0_pay167 (v140 d) (v142 d) (v148 d) (v149 d) (v150 d) (v154 d)
def v215 : FVec F S256x512 .f32 := k0_pay168 (v141 d) (v149 d) (v154 d)
def v216 : FVec F S256x512 .f32 := k0_pay169 (v141 d) (v149 d) (v154 d)
def v252 : FVec F S256x512 .f32 := k0_pay205 (v185 d) (v186 d) (v187 d) (v188 d) (v189 d) (v190 d) (v191 d) (v192 d) (v193 d) (v194 d) (v195 d) (v196 d) (v197 d) (v198 d) (v208 d) (v209 d) (v210 d) (v211 d) (v212 d) (v213 d) (v214 d) (v215 d) (v216 d)
def v253 : FVec F S256x512 .f32 := k0_pay206 (v185 d) (v186 d) (v187 d) (v188 d) (v189 d) (v190 d) (v191 d) (v192 d) (v193 d) (v194 d) (v195 d) (v196 d) (v197 d) (v198 d) (v208 d) (v209 d) (v210 d) (v211 d) (v212 d) (v213 d) (v214 d) (v215 d) (v216 d)
def v254 : FVec F S256x512 .f32 := k0_pay207 (v185 d) (v186 d) (v187 d) (v188 d) (v189 d) (v190 d) (v191 d) (v192 d) (v193 d) (v194 d) (v195 d) (v196 d) (v197 d) (v198 d) (v208 d) (v209 d) (v210 d) (v211 d) (v212 d) (v213 d) (v214 d) (v215 d) (v216 d)
def v255 : FVec F S256x512 .f32 := k0_pay208 (v185 d) (v186 d) (v187 d) (v188 d) (v189 d) (v190 d) (v191 d) (v192 d) (v193 d) (v194 d) (v195 d) (v196 d) (v197 d) (v198 d) (v208 d) (v209 d) (v210 d) (v211 d) (v212 d) (v213 d) (v214 d) (v215 d) (v216 d)
def v260 : FVec F S256x512 .f32 := k0_pay213 (v185 d) (v186 d) (v187 d) (v188 d) (v189 d) (v190 d) (v191 d) (v192 d) (v193 d) (v194 d) (v195 d) (v196 d) (v197 d) (v198 d) (v208 d) (v209 d) (v210 d) (v211 d) (v212 d) (v213 d) (v214 d) (v215 d) (v216 d)
def v261 : FVec F S256x512 .f32 := k0_pay214 (v185 d) (v186 d) (v187 d) (v188 d) (v189 d) (v190 d) (v191 d) (v192 d) (v193 d) (v194 d) (v195 d) (v196 d) (v197 d) (v198 d) (v208 d) (v209 d) (v210 d) (v211 d) (v212 d) (v213 d) (v214 d) (v215 d) (v216 d)
def v262 : FVec F S256x512 .f32 := k0_pay215 (v185 d) (v186 d) (v187 d) (v188 d) (v189 d) (v190 d) (v191 d) (v192 d) (v193 d) (v194 d) (v195 d) (v196 d) (v197 d) (v198 d) (v208 d) (v209 d) (v210 d) (v211 d) (v212 d) (v213 d) (v214 d) (v215 d) (v216 d)
def v263 : FVec F S256x512 .f32 := k0_pay216 (v185 d) (v186 d) (v187 d) (v188 d) (v189 d) (v190 d) (v191 d) (v192 d) (v193 d) (v194 d) (v195 d) (v196 d) (v197 d) (v198 d) (v208 d) (v209 d) (v210 d) (v211 d) (v212 d) (v213 d) (v214 d) (v215 d) (v216 d)
def v268 : FVec F S256x512 .f32 := k0_pay221 (v188 d) (v195 d) (v208 d) (v212 d) (v216 d)
def v269 : FVec F S256x512 .f32 := k0_pay222 (v185 d) (v189 d) (v194 d) (v198 d) (v209 d) (v213 d)
def v270 : FVec F S256x512 .f32 := k0_pay223 (v186 d) (v190 d) (v193 d) (v197 d) (v210 d) (v214 d)
def v271 : FVec F S256x512 .f32 := k0_pay224 (v187 d) (v191 d) (v192 d) (v196 d) (v211 d) (v215 d)
def v272 : FVec F S256x512 .f32 := k0_pay225 (v186 d) (v188 d) (v190 d) (v193 d) (v195 d) (v197 d) (v208 d) (v210 d) (v212 d) (v214 d) (v216 d)
def v273 : FVec F S256x512 .f32 := k0_pay226 (v185 d) (v187 d) (v189 d) (v191 d) (v192 d) (v194 d) (v196 d) (v198 d) (v209 d) (v211 d) (v213 d) (v215 d)
def v274 : FVec F S256x512 .f32 := k0_pay227 (v186 d) (v188 d) (v190 d) (v193 d) (v195 d) (v197 d) (v208 d) (v210 d) (v212 d) (v214 d) (v216 d)
def v275 : FVec F S256x512 .f32 := k0_pay228 (v185 d) (v187 d) (v189 d) (v191 d) (v192 d) (v194 d) (v196 d) (v198 d) (v209 d) (v211 d) (v213 d) (v215 d)
def v276 : FVec F S256x512 .f32 := k0_pay229 (v185 d) (v186 d) (v187 d) (v188 d) (v189 d) (v190 d) (v191 d) (v192 d) (v193 d) (v194 d) (v195 d) (v196 d) (v197 d) (v198 d) (v208 d) (v209 d) (v210 d) (v211 d) (v212 d) (v213 d) (v214 d) (v215 d) (v216 d)
def v320 : FVec F S256x256 .f32 := k0_pay241 (v252 d) (v268 d) (v269 d) (v270 d) (v271 d)
def v321 : FVec F S256x256 .f32 := k0_pay242 (v253 d) (v268 d) (v269 d) (v270 d) (v271 d)
def v322 : FVec F S256x256 .f32 := k0_pay243 (v254 d) (v268 d) (v269 d) (v270 d) (v271 d)
def v323 : FVec F S256x256 .f32 := k0_pay244 (v255 d) (v268 d) (v269 d) (v270 d) (v271 d)
def v324 : FVec F S256x256 .f32 := k0_pay245 (v260 d) (v274 d) (v275 d)
def v325 : FVec F S256x256 .f32 := k0_pay246 (v261 d) (v274 d) (v275 d)
def v326 : FVec F S256x256 .f32 := k0_pay247 (v262 d) (v272 d) (v273 d)
def v327 : FVec F S256x256 .f32 := k0_pay248 (v263 d) (v276 d)
def v328 : FVec F S256x256 .f32 := k0_pay249 (v263 d) (v276 d)
def v329 : FVec F S256x256 .f32 := k0_pay250 (v262 d) (v272 d) (v273 d)
def v330 : FVec F S256x256 .f32 := k0_pay251 (v261 d) (v274 d) (v275 d)
def v331 : FVec F S256x256 .f32 := k0_pay252 (v260 d) (v274 d) (v275 d)
def v332 : FVec F S256x256 .f32 := k0_pay253 (v255 d) (v268 d) (v269 d) (v270 d) (v271 d)
def v333 : FVec F S256x256 .f32 := k0_pay254 (v254 d) (v268 d) (v269 d) (v270 d) (v271 d)
def v334 : FVec F S256x256 .f32 := k0_pay255 (v253 d) (v268 d) (v269 d) (v270 d) (v271 d)
def v335 : FVec F S256x256 .f32 := k0_pay256 (v252 d) (v268 d) (v269 d) (v270 d) (v271 d)
def v336 : FVec F S256x256 .f32 := k0_pay257 (v252 d) (v263 d) (v268 d) (v269 d) (v270 d) (v271 d) (v276 d)
def v364 : FVec F S256x256 .f32 := k0_pay285 (v321 d) (v322 d) (v323 d) (v324 d) (v325 d) (v326 d) (v327 d) (v329 d) (v330 d) (v331 d) (v332 d) (v333 d) (v334 d) (v335 d) (v336 d)
def v365 : FVec F S256x256 .f32 := k0_pay286 (v321 d) (v322 d) (v323 d) (v324 d) (v325 d) (v326 d) (v327 d) (v329 d) (v330 d) (v331 d) (v332 d) (v333 d) (v334 d) (v335 d) (v336 d)
def v366 : FVec F S256x256 .f32 := k0_pay287 (v321 d) (v322 d) (v323 d) (v324 d) (v325 d) (v326 d) (v327 d) (v329 d) (v330 d) (v331 d) (v332 d) (v333 d) (v334 d) (v335 d) (v336 d)
def v367 : FVec F S256x256 .f32 := k0_pay288 (v321 d) (v322 d) (v323 d) (v324 d) (v325 d) (v326 d) (v327 d) (v329 d) (v330 d) (v331 d) (v332 d) (v333 d) (v334 d) (v335 d) (v336 d)
def v372 : FVec F S256x256 .f32 := k0_pay293 (v321 d) (v322 d) (v323 d) (v324 d) (v325 d) (v326 d) (v327 d) (v329 d) (v330 d) (v331 d) (v332 d) (v333 d) (v334 d) (v335 d) (v336 d)
def v373 : FVec F S256x256 .f32 := k0_pay294 (v321 d) (v322 d) (v323 d) (v324 d) (v325 d) (v326 d) (v327 d) (v329 d) (v330 d) (v331 d) (v332 d) (v333 d) (v334 d) (v335 d) (v336 d)
def v374 : FVec F S256x256 .f32 := k0_pay295 (v321 d) (v322 d) (v323 d) (v324 d) (v325 d) (v326 d) (v327 d) (v329 d) (v330 d) (v331 d) (v332 d) (v333 d) (v334 d) (v335 d) (v336 d)
def v375 : FVec F S256x256 .f32 := k0_pay296 (v321 d) (v322 d) (v323 d) (v324 d) (v325 d) (v326 d) (v327 d) (v329 d) (v330 d) (v331 d) (v332 d) (v333 d) (v334 d) (v335 d) (v336 d)
def v388 : FVec F S256x256 .f32 := k0_pay309 (v320 d) (v321 d) (v322 d) (v323 d) (v324 d) (v325 d) (v326 d) (v327 d) (v328 d) (v329 d) (v330 d) (v331 d) (v332 d) (v333 d) (v334 d) (v335 d)
def v389 : FVec F S256x256 .f32 := k0_pay310 (v320 d) (v321 d) (v322 d) (v323 d) (v324 d) (v325 d) (v326 d) (v327 d) (v328 d) (v329 d) (v330 d) (v331 d) (v332 d) (v333 d) (v334 d) (v335 d)
def v390 : FVec F S256x256 .f32 := k0_pay311 (v320 d) (v321 d) (v322 d) (v323 d) (v324 d) (v325 d) (v326 d) (v327 d) (v328 d) (v329 d) (v330 d) (v331 d) (v332 d) (v333 d) (v334 d) (v335 d)
def v391 : FVec F S256x256 .f32 := k0_pay312 (v320 d) (v321 d) (v322 d) (v323 d) (v324 d) (v325 d) (v326 d) (v327 d) (v328 d) (v329 d) (v330 d) (v331 d) (v332 d) (v333 d) (v334 d) (v335 d)
def v392 : FVec F S256x256 .f32 := k0_pay313 (v320 d) (v322 d) (v324 d) (v326 d) (v328 d) (v330 d) (v332 d) (v334 d)
def v393 : FVec F S256x256 .f32 := k0_pay314 (v321 d) (v323 d) (v325 d) (v327 d) (v329 d) (v331 d) (v333 d) (v335 d)
def v394 : FVec F S256x256 .f32 := k0_pay315 (v320 d) (v322 d) (v324 d) (v326 d) (v328 d) (v330 d) (v332 d) (v334 d)
def v395 : FVec F S256x256 .f32 := k0_pay316 (v321 d) (v323 d) (v325 d) (v327 d) (v329 d) (v331 d) (v333 d) (v335 d)
def v396 : FVec F S256x256 .f32 := k0_pay317 (v320 d) (v321 d) (v322 d) (v323 d) (v324 d) (v325 d) (v326 d) (v327 d) (v328 d) (v329 d) (v330 d) (v331 d) (v332 d) (v333 d) (v334 d) (v335 d)
def v433 : FVec F S256x128 .f32 := k0_pay322 (v365 d) (v394 d) (v395 d)
def v434 : FVec F S256x128 .f32 := k0_pay323 (v366 d) (v392 d) (v393 d)
def v435 : FVec F S256x128 .f32 := k0_pay324 (v367 d) (v396 d)
def v436 : FVec F S256x128 .f32 := k0_pay325 (v372 d) (v391 d)
def v437 : FVec F S256x128 .f32 := k0_pay326 (v373 d) (v390 d)
def v438 : FVec F S256x128 .f32 := k0_pay327 (v374 d) (v389 d)
def v439 : FVec F S256x128 .f32 := k0_pay328 (v375 d) (v388 d)
def v441 : FVec F S256x128 .f32 := k0_pay330 (v374 d) (v389 d)
def v442 : FVec F S256x128 .f32 := k0_pay331 (v373 d) (v390 d)
def v443 : FVec F S256x128 .f32 := k0_pay332 (v372 d) (v391 d)
def v444 : FVec F S256x128 .f32 := k0_pay333 (v367 d) (v396 d)
def v445 : FVec F S256x128 .f32 := k0_pay334 (v366 d) (v392 d) (v393 d)
def v446 : FVec F S256x128 .f32 := k0_pay335 (v365 d) (v394 d) (v395 d)
def v447 : FVec F S256x128 .f32 := k0_pay336 (v364 d) (v394 d) (v395 d)
def v448 : FVec F S256x128 .f32 := k0_pay337 (v364 d) (v375 d) (v388 d) (v394 d) (v395 d)
def v449 : FVec F S256x128 .f32 := k0_pay338 (v365 d) (v374 d) (v389 d) (v394 d) (v395 d)
def v450 : FVec F S256x128 .f32 := k0_pay339 (v366 d) (v373 d) (v390 d) (v392 d) (v393 d)
def v451 : FVec F S256x128 .f32 := k0_pay340 (v367 d) (v372 d) (v391 d) (v396 d)
def v452 : FVec F S256x128 .f32 := k0_pay341 (v367 d) (v372 d) (v391 d) (v396 d)
def v453 : FVec F S256x128 .f32 := k0_pay342 (v366 d) (v373 d) (v390 d) (v392 d) (v393 d)
def v454 : FVec F S256x128 .f32 := k0_pay343 (v365 d) (v374 d) (v389 d) (v394 d) (v395 d)
def v455 : FVec F S256x128 .f32 := k0_pay344 (v364 d) (v375 d) (v388 d) (v394 d) (v395 d)
def v456 : FVec F S256x128 .f32 := k0_pay345 (v364 d) (v375 d) (v388 d) (v394 d) (v395 d)
def v485 : FVec F S256x128 .f32 := k0_pay369 (v448 d) (v449 d) (v450 d) (v451 d) (v452 d) (v453 d) (v454 d) (v455 d)
def v486 : FVec F S256x128 .f32 := k0_pay370 (v448 d) (v449 d) (v450 d) (v451 d) (v452 d) (v453 d) (v454 d) (v455 d)
def v487 : FVec F S256x128 .f32 := k0_pay371 (v448 d) (v449 d) (v450 d) (v451 d) (v452 d) (v453 d) (v454 d) (v455 d)
def v500 : FVec F S256x128 .f32 := k0_pay384 (v433 d) (v434 d) (v435 d) (v436 d) (v437 d) (v438 d) (v439 d) (v441 d) (v442 d) (v443 d) (v444 d) (v445 d) (v446 d) (v447 d) (v456 d)
def v501 : FVec F S256x128 .f32 := k0_pay385 (v433 d) (v434 d) (v435 d) (v436 d) (v437 d) (v438 d) (v439 d) (v441 d) (v442 d) (v443 d) (v444 d) (v445 d) (v446 d) (v447 d) (v456 d)
def v502 : FVec F S256x128 .f32 := k0_pay386 (v433 d) (v434 d) (v435 d) (v436 d) (v437 d) (v438 d) (v439 d) (v441 d) (v442 d) (v443 d) (v444 d) (v445 d) (v446 d) (v447 d) (v456 d)
def v503 : FVec F S256x128 .f32 := k0_pay387 (v433 d) (v434 d) (v435 d) (v436 d) (v437 d) (v438 d) (v439 d) (v441 d) (v442 d) (v443 d) (v444 d) (v445 d) (v446 d) (v447 d) (v456 d)
def v508 : FVec F S256x128 .f32 := k0_pay392 (v433 d) (v434 d) (v435 d) (v436 d) (v437 d) (v438 d) (v439 d) (v441 d) (v442 d) (v443 d) (v444 d) (v445 d) (v446 d) (v447 d) (v456 d)
def v509 : FVec F S256x128 .f32 := k0_pay393 (v433 d) (v434 d) (v435 d) (v436 d) (v437 d) (v438 d) (v439 d) (v441 d) (v442 d) (v443 d) (v444 d) (v445 d) (v446 d) (v447 d) (v456 d)
def v510 : FVec F S256x128 .f32 := k0_pay394 (v433 d) (v434 d) (v435 d) (v436 d) (v437 d) (v438 d) (v439 d) (v441 d) (v442 d) (v443 d) (v444 d) (v445 d) (v446 d) (v447 d) (v456 d)
def v511 : FVec F S256x128 .f32 := k0_pay395 (v433 d) (v434 d) (v435 d) (v436 d) (v437 d) (v438 d) (v439 d) (v441 d) (v442 d) (v443 d) (v444 d) (v445 d) (v446 d) (v447 d) (v456 d)
def v512 : FVec F S128x256 .f32 := k0_pay396 (v448 d) (v449 d) (v450 d) (v451 d) (v452 d) (v453 d) (v454 d) (v455 d)
def v513 : FVec F S128x256 .f32 := k0_pay397 (v448 d) (v449 d) (v450 d) (v451 d) (v452 d) (v453 d) (v454 d) (v455 d)
def v514 : FVec F S128x256 .f32 := k0_pay398 (v448 d) (v449 d) (v450 d) (v451 d) (v452 d) (v453 d) (v454 d) (v455 d)
def v515 : FVec F S128x256 .f32 := k0_pay399 (v448 d) (v449 d) (v450 d) (v451 d) (v452 d) (v453 d) (v454 d) (v455 d)
def v516 : FVec F S128x256 .f32 := k0_pay400 (v448 d) (v449 d) (v450 d) (v451 d) (v452 d) (v453 d) (v454 d) (v455 d)
def v560 : FVec F S64x256 .f32 := k0_pay412 (v511 d) (v512 d)
def v561 : FVec F S64x256 .f32 := k0_pay413 (v510 d) (v513 d)
def v562 : FVec F S64x256 .f32 := k0_pay414 (v509 d) (v514 d)
def v563 : FVec F S64x256 .f32 := k0_pay415 (v508 d) (v515 d)
def v564 : FVec F S64x256 .f32 := k0_pay416 (v503 d) (v516 d)
def v565 : FVec F S64x256 .f32 := k0_pay417 (v485 d) (v502 d)
def v566 : FVec F S64x256 .f32 := k0_pay418 (v486 d) (v501 d)
def v567 : FVec F S64x256 .f32 := k0_pay419 (v487 d) (v500 d)
def v568 : FVec F S64x256 .f32 := k0_pay420 (v487 d) (v500 d)
def v569 : FVec F S64x256 .f32 := k0_pay421 (v486 d) (v501 d)
def v570 : FVec F S64x256 .f32 := k0_pay422 (v485 d) (v502 d)
def v571 : FVec F S64x256 .f32 := k0_pay423 (v503 d) (v516 d)
def v572 : FVec F S64x256 .f32 := k0_pay424 (v508 d) (v515 d)
def v573 : FVec F S64x256 .f32 := k0_pay425 (v509 d) (v514 d)
def v574 : FVec F S64x256 .f32 := k0_pay426 (v510 d) (v513 d)
def v575 : FVec F S64x256 .f32 := k0_pay427 (v511 d) (v512 d)
def v576 : FVec F S64x256 .f32 := k0_pay428 (v487 d) (v500 d) (v511 d) (v512 d)
def v604 : FVec F S64x256 .f32 := k0_pay456 (v561 d) (v562 d) (v563 d) (v564 d) (v565 d) (v566 d) (v567 d) (v569 d) (v570 d) (v571 d) (v572 d) (v573 d) (v574 d) (v575 d) (v576 d)
def v605 : FVec F S64x256 .f32 := k0_pay457 (v561 d) (v562 d) (v563 d) (v564 d) (v565 d) (v566 d) (v567 d) (v569 d) (v570 d) (v571 d) (v572 d) (v573 d) (v574 d) (v575 d) (v576 d)
def v606 : FVec F S64x256 .f32 := k0_pay458 (v561 d) (v562 d) (v563 d) (v564 d) (v565 d) (v566 d) (v567 d) (v569 d) (v570 d) (v571 d) (v572 d) (v573 d) (v574 d) (v575 d) (v576 d)
def v607 : FVec F S64x256 .f32 := k0_pay459 (v561 d) (v562 d) (v563 d) (v564 d) (v565 d) (v566 d) (v567 d) (v569 d) (v570 d) (v571 d) (v572 d) (v573 d) (v574 d) (v575 d) (v576 d)
def v612 : FVec F S64x256 .f32 := k0_pay464 (v561 d) (v562 d) (v563 d) (v564 d) (v565 d) (v566 d) (v567 d) (v569 d) (v570 d) (v571 d) (v572 d) (v573 d) (v574 d) (v575 d) (v576 d)
def v613 : FVec F S64x256 .f32 := k0_pay465 (v561 d) (v562 d) (v563 d) (v564 d) (v565 d) (v566 d) (v567 d) (v569 d) (v570 d) (v571 d) (v572 d) (v573 d) (v574 d) (v575 d) (v576 d)
def v614 : FVec F S64x256 .f32 := k0_pay466 (v561 d) (v562 d) (v563 d) (v564 d) (v565 d) (v566 d) (v567 d) (v569 d) (v570 d) (v571 d) (v572 d) (v573 d) (v574 d) (v575 d) (v576 d)
def v615 : FVec F S64x256 .f32 := k0_pay467 (v561 d) (v562 d) (v563 d) (v564 d) (v565 d) (v566 d) (v567 d) (v569 d) (v570 d) (v571 d) (v572 d) (v573 d) (v574 d) (v575 d) (v576 d)
def v628 : FVec F S64x256 .f32 := k0_pay480 (v560 d) (v561 d) (v562 d) (v563 d) (v564 d) (v565 d) (v566 d) (v567 d) (v568 d) (v569 d) (v570 d) (v571 d) (v572 d) (v573 d) (v574 d) (v575 d)
def v629 : FVec F S64x256 .f32 := k0_pay481 (v560 d) (v561 d) (v562 d) (v563 d) (v564 d) (v565 d) (v566 d) (v567 d) (v568 d) (v569 d) (v570 d) (v571 d) (v572 d) (v573 d) (v574 d) (v575 d)
def v630 : FVec F S64x256 .f32 := k0_pay482 (v560 d) (v561 d) (v562 d) (v563 d) (v564 d) (v565 d) (v566 d) (v567 d) (v568 d) (v569 d) (v570 d) (v571 d) (v572 d) (v573 d) (v574 d) (v575 d)
def v631 : FVec F S64x256 .f32 := k0_pay483 (v560 d) (v561 d) (v562 d) (v563 d) (v564 d) (v565 d) (v566 d) (v567 d) (v568 d) (v569 d) (v570 d) (v571 d) (v572 d) (v573 d) (v574 d) (v575 d)
def v632 : FVec F S64x256 .f32 := k0_pay484 (v560 d) (v562 d) (v564 d) (v566 d) (v568 d) (v570 d) (v572 d) (v574 d)
def v633 : FVec F S64x256 .f32 := k0_pay485 (v561 d) (v563 d) (v565 d) (v567 d) (v569 d) (v571 d) (v573 d) (v575 d)
def v634 : FVec F S64x256 .f32 := k0_pay486 (v560 d) (v562 d) (v564 d) (v566 d) (v568 d) (v570 d) (v572 d) (v574 d)
def v635 : FVec F S64x256 .f32 := k0_pay487 (v561 d) (v563 d) (v565 d) (v567 d) (v569 d) (v571 d) (v573 d) (v575 d)
def v636 : FVec F S64x256 .f32 := k0_pay488 (v560 d) (v561 d) (v562 d) (v563 d) (v564 d) (v565 d) (v566 d) (v567 d) (v568 d) (v569 d) (v570 d) (v571 d) (v572 d) (v573 d) (v574 d) (v575 d)
def v673 : FVec F S32x256 .f32 := k0_pay493 (v605 d) (v634 d) (v635 d)
def v674 : FVec F S32x256 .f32 := k0_pay494 (v606 d) (v632 d) (v633 d)
def v675 : FVec F S32x256 .f32 := k0_pay495 (v607 d) (v636 d)
def v676 : FVec F S32x256 .f32 := k0_pay496 (v612 d) (v631 d)
def v677 : FVec F S32x256 .f32 := k0_pay497 (v613 d) (v630 d)
def v678 : FVec F S32x256 .f32 := k0_pay498 (v614 d) (v629 d)
def v679 : FVec F S32x256 .f32 := k0_pay499 (v615 d) (v628 d)
def v681 : FVec F S32x256 .f32 := k0_pay501 (v614 d) (v629 d)
def v682 : FVec F S32x256 .f32 := k0_pay502 (v613 d) (v630 d)
def v683 : FVec F S32x256 .f32 := k0_pay503 (v612 d) (v631 d)
def v684 : FVec F S32x256 .f32 := k0_pay504 (v607 d) (v636 d)
def v685 : FVec F S32x256 .f32 := k0_pay505 (v606 d) (v632 d) (v633 d)
def v686 : FVec F S32x256 .f32 := k0_pay506 (v605 d) (v634 d) (v635 d)
def v687 : FVec F S32x256 .f32 := k0_pay507 (v604 d) (v634 d) (v635 d)
def v688 : FVec F S32x256 .f32 := k0_pay508 (v604 d) (v615 d) (v628 d) (v634 d) (v635 d)
def v689 : FVec F S32x256 .f32 := k0_pay509 (v605 d) (v614 d) (v629 d) (v634 d) (v635 d)
def v690 : FVec F S32x256 .f32 := k0_pay510 (v606 d) (v613 d) (v630 d) (v632 d) (v633 d)
def v691 : FVec F S32x256 .f32 := k0_pay511 (v607 d) (v612 d) (v631 d) (v636 d)
def v692 : FVec F S32x256 .f32 := k0_pay512 (v607 d) (v612 d) (v631 d) (v636 d)
def v693 : FVec F S32x256 .f32 := k0_pay513 (v606 d) (v613 d) (v630 d) (v632 d) (v633 d)
def v694 : FVec F S32x256 .f32 := k0_pay514 (v605 d) (v614 d) (v629 d) (v634 d) (v635 d)
def v695 : FVec F S32x256 .f32 := k0_pay515 (v604 d) (v615 d) (v628 d) (v634 d) (v635 d)
def v696 : FVec F S32x256 .f32 := k0_pay516 (v604 d) (v615 d) (v628 d) (v634 d) (v635 d)
def v716 : FVec F S32x256 .f32 := k0_pay536 (v688 d) (v689 d) (v690 d) (v691 d) (v692 d) (v693 d) (v694 d) (v695 d)
def v717 : FVec F S32x256 .f32 := k0_pay537 (v688 d) (v689 d) (v690 d) (v691 d) (v692 d) (v693 d) (v694 d) (v695 d)
def v718 : FVec F S32x256 .f32 := k0_pay538 (v688 d) (v689 d) (v690 d) (v691 d) (v692 d) (v693 d) (v694 d) (v695 d)
def v719 : FVec F S32x256 .f32 := k0_pay539 (v688 d) (v689 d) (v690 d) (v691 d) (v692 d) (v693 d) (v694 d) (v695 d)
def v724 : FVec F S32x256 .f32 := k0_pay544 (v688 d) (v689 d) (v690 d) (v691 d) (v692 d) (v693 d) (v694 d) (v695 d)
def v725 : FVec F S32x256 .f32 := k0_pay545 (v688 d) (v689 d) (v690 d) (v691 d) (v692 d) (v693 d) (v694 d) (v695 d)
def v726 : FVec F S32x256 .f32 := k0_pay546 (v688 d) (v689 d) (v690 d) (v691 d) (v692 d) (v693 d) (v694 d) (v695 d)
def v727 : FVec F S32x256 .f32 := k0_pay547 (v688 d) (v689 d) (v690 d) (v691 d) (v692 d) (v693 d) (v694 d) (v695 d)
def v740 : FVec F S32x256 .f32 := k0_pay560 (v673 d) (v674 d) (v675 d) (v676 d) (v677 d) (v678 d) (v679 d) (v681 d) (v682 d) (v683 d) (v684 d) (v685 d) (v686 d) (v687 d) (v696 d)
def v741 : FVec F S32x256 .f32 := k0_pay561 (v673 d) (v674 d) (v675 d) (v676 d) (v677 d) (v678 d) (v679 d) (v681 d) (v682 d) (v683 d) (v684 d) (v685 d) (v686 d) (v687 d) (v696 d)
def v742 : FVec F S32x256 .f32 := k0_pay562 (v673 d) (v674 d) (v675 d) (v676 d) (v677 d) (v678 d) (v679 d) (v681 d) (v682 d) (v683 d) (v684 d) (v685 d) (v686 d) (v687 d) (v696 d)
def v743 : FVec F S32x256 .f32 := k0_pay563 (v673 d) (v674 d) (v675 d) (v676 d) (v677 d) (v678 d) (v679 d) (v681 d) (v682 d) (v683 d) (v684 d) (v685 d) (v686 d) (v687 d) (v696 d)
def v748 : FVec F S32x256 .f32 := k0_pay568 (v673 d) (v674 d) (v675 d) (v676 d) (v677 d) (v678 d) (v679 d) (v681 d) (v682 d) (v683 d) (v684 d) (v685 d) (v686 d) (v687 d) (v696 d)
def v749 : FVec F S32x256 .f32 := k0_pay569 (v673 d) (v674 d) (v675 d) (v676 d) (v677 d) (v678 d) (v679 d) (v681 d) (v682 d) (v683 d) (v684 d) (v685 d) (v686 d) (v687 d) (v696 d)
def v750 : FVec F S32x256 .f32 := k0_pay570 (v673 d) (v674 d) (v675 d) (v676 d) (v677 d) (v678 d) (v679 d) (v681 d) (v682 d) (v683 d) (v684 d) (v685 d) (v686 d) (v687 d) (v696 d)
def v751 : FVec F S32x256 .f32 := k0_pay571 (v673 d) (v674 d) (v675 d) (v676 d) (v677 d) (v678 d) (v679 d) (v681 d) (v682 d) (v683 d) (v684 d) (v685 d) (v686 d) (v687 d) (v696 d)
def v752 : FVec F S16x256 .f32 := k0_pay572 (v688 d) (v689 d) (v690 d) (v691 d) (v692 d) (v693 d) (v694 d) (v695 d)
def v753 : FVec F S16x256 .f32 := k0_pay573 (v688 d) (v689 d) (v690 d) (v691 d) (v692 d) (v693 d) (v694 d) (v695 d)
def v754 : FVec F S16x256 .f32 := k0_pay574 (v688 d) (v689 d) (v690 d) (v691 d) (v692 d) (v693 d) (v694 d) (v695 d)
def v755 : FVec F S16x256 .f32 := k0_pay575 (v688 d) (v689 d) (v690 d) (v691 d) (v692 d) (v693 d) (v694 d) (v695 d)
def v756 : FVec F S16x256 .f32 := k0_pay576 (v688 d) (v689 d) (v690 d) (v691 d) (v692 d) (v693 d) (v694 d) (v695 d)
def v800 : FVec F S16x256 .f32 := k0_pay593 (v727 d) (v740 d) (v751 d) (v752 d)
def v801 : FVec F S16x256 .f32 := k0_pay594 (v726 d) (v741 d) (v750 d) (v753 d)
def v802 : FVec F S16x256 .f32 := k0_pay595 (v725 d) (v742 d) (v749 d) (v754 d)
def v803 : FVec F S16x256 .f32 := k0_pay596 (v724 d) (v743 d) (v748 d) (v755 d)
def v804 : FVec F S16x256 .f32 := k0_pay597 (v719 d) (v743 d) (v748 d) (v756 d)
def v805 : FVec F S16x256 .f32 := k0_pay598 (v718 d) (v725 d) (v742 d) (v749 d)
def v806 : FVec F S16x256 .f32 := k0_pay599 (v717 d) (v726 d) (v741 d) (v750 d)
def v807 : FVec F S16x256 .f32 := k0_pay600 (v716 d) (v727 d) (v740 d) (v751 d)
def v808 : FVec F S16x256 .f32 := k0_pay601 (v727 d) (v740 d) (v751 d) (v752 d)
def v809 : FVec F S16x256 .f32 := k0_pay602 (v726 d) (v741 d) (v750 d) (v753 d)
def v810 : FVec F S16x256 .f32 := k0_pay603 (v725 d) (v742 d) (v749 d) (v754 d)
def v811 : FVec F S16x256 .f32 := k0_pay604 (v724 d) (v743 d) (v748 d) (v755 d)
def v812 : FVec F S16x256 .f32 := k0_pay605 (v719 d) (v743 d) (v748 d) (v756 d)
def v813 : FVec F S16x256 .f32 := k0_pay606 (v718 d) (v725 d) (v742 d) (v749 d)
def v814 : FVec F S16x256 .f32 := k0_pay607 (v717 d) (v726 d) (v741 d) (v750 d)
def v815 : FVec F S16x256 .f32 := k0_pay608 (v716 d) (v727 d) (v740 d) (v751 d)
def v816 : FVec F S16x256 .f32 := k0_pay609 (v719 d) (v727 d) (v740 d) (v743 d) (v748 d) (v751 d) (v752 d) (v756 d)
def v828 : FVec F S16x256 .f32 := k0_pay621 (v801 d) (v802 d) (v803 d) (v805 d) (v806 d) (v807 d) (v816 d)
def v829 : FVec F S16x256 .f32 := k0_pay622 (v801 d) (v802 d) (v803 d) (v805 d) (v806 d) (v807 d) (v816 d)
def v830 : FVec F S16x256 .f32 := k0_pay623 (v801 d) (v802 d) (v803 d) (v805 d) (v806 d) (v807 d) (v816 d)
def v831 : FVec F S16x256 .f32 := k0_pay624 (v801 d) (v802 d) (v803 d) (v805 d) (v806 d) (v807 d) (v816 d)
def v836 : FVec F S16x256 .f32 := k0_pay629 (v800 d) (v801 d) (v802 d) (v803 d) (v804 d) (v805 d) (v806 d) (v807 d)
def v837 : FVec F S16x256 .f32 := k0_pay630 (v800 d) (v801 d) (v802 d) (v803 d) (v804 d) (v805 d) (v806 d) (v807 d)
def v838 : FVec F S16x256 .f32 := k0_pay631 (v800 d) (v801 d) (v802 d) (v803 d) (v804 d) (v805 d) (v806 d) (v807 d)
def v839 : FVec F S16x256 .f32 := k0_pay632 (v800 d) (v801 d) (v802 d) (v803 d) (v804 d) (v805 d) (v806 d) (v807 d)
def v852 : FVec F S16x256 .f32 := k0_pay645 (v808 d) (v809 d) (v810 d) (v811 d) (v812 d) (v813 d) (v814 d) (v815 d)
def v853 : FVec F S16x256 .f32 := k0_pay646 (v808 d) (v809 d) (v810 d) (v811 d) (v812 d) (v813 d) (v814 d) (v815 d)
def v854 : FVec F S16x256 .f32 := k0_pay647 (v808 d) (v809 d) (v810 d) (v811 d) (v812 d) (v813 d) (v814 d) (v815 d)
def v855 : FVec F S16x256 .f32 := k0_pay648 (v808 d) (v809 d) (v810 d) (v811 d) (v812 d) (v813 d) (v814 d) (v815 d)
def v860 : FVec F S16x256 .f32 := k0_pay653 (v808 d) (v809 d) (v810 d) (v811 d) (v812 d) (v813 d) (v814 d) (v815 d)
def v861 : FVec F S16x256 .f32 := k0_pay654 (v808 d) (v809 d) (v810 d) (v811 d) (v812 d) (v813 d) (v814 d) (v815 d)
def v862 : FVec F S16x256 .f32 := k0_pay655 (v808 d) (v809 d) (v810 d) (v811 d) (v812 d) (v813 d) (v814 d) (v815 d)
def v863 : FVec F S16x256 .f32 := k0_pay656 (v808 d) (v809 d) (v810 d) (v811 d) (v812 d) (v813 d) (v814 d) (v815 d)
def v864 : FVec F S8x256 .f32 := k0_pay657 (v801 d) (v802 d) (v803 d) (v805 d) (v806 d) (v807 d) (v816 d)
def v865 : FVec F S8x256 .f32 := k0_pay658 (v801 d) (v802 d) (v803 d) (v805 d) (v806 d) (v807 d) (v816 d)
def v866 : FVec F S8x256 .f32 := k0_pay659 (v801 d) (v802 d) (v803 d) (v805 d) (v806 d) (v807 d) (v816 d)
def v867 : FVec F S8x256 .f32 := k0_pay660 (v801 d) (v802 d) (v803 d) (v805 d) (v806 d) (v807 d) (v816 d)
def v868 : FVec F S8x256 .f32 := k0_pay661 (v800 d) (v801 d) (v802 d) (v803 d) (v804 d) (v805 d) (v806 d) (v807 d)
def v869 : FVec F S8x256 .f32 := k0_pay662 (v800 d) (v801 d) (v802 d) (v803 d) (v804 d) (v805 d) (v806 d) (v807 d)
def v870 : FVec F S8x256 .f32 := k0_pay663 (v800 d) (v801 d) (v802 d) (v803 d) (v804 d) (v805 d) (v806 d) (v807 d)
def v871 : FVec F S8x256 .f32 := k0_pay664 (v800 d) (v801 d) (v802 d) (v803 d) (v804 d) (v805 d) (v806 d) (v807 d)
def v872 : FVec F S8x256 .f32 := k0_pay665 (v808 d) (v809 d) (v810 d) (v811 d) (v812 d) (v813 d) (v814 d) (v815 d)
def v873 : FVec F S8x256 .f32 := k0_pay666 (v808 d) (v809 d) (v810 d) (v811 d) (v812 d) (v813 d) (v814 d) (v815 d)
def v874 : FVec F S8x256 .f32 := k0_pay667 (v808 d) (v809 d) (v810 d) (v811 d) (v812 d) (v813 d) (v814 d) (v815 d)
def v875 : FVec F S8x256 .f32 := k0_pay668 (v808 d) (v809 d) (v810 d) (v811 d) (v812 d) (v813 d) (v814 d) (v815 d)
def v876 : FVec F S8x256 .f32 := k0_pay669 (v808 d) (v809 d) (v810 d) (v811 d) (v812 d) (v813 d) (v814 d) (v815 d)
def v920 : FVec F S8x256 .f32 := k0_pay694 (v839 d) (v863 d) (v864 d) (v872 d)
def v921 : FVec F S8x256 .f32 := k0_pay695 (v838 d) (v862 d) (v865 d) (v873 d)
def v922 : FVec F S8x256 .f32 := k0_pay696 (v837 d) (v861 d) (v866 d) (v874 d)
def v923 : FVec F S8x256 .f32 := k0_pay697 (v836 d) (v860 d) (v867 d) (v875 d)
def v924 : FVec F S8x256 .f32 := k0_pay698 (v831 d) (v855 d) (v868 d) (v876 d)
def v925 : FVec F S8x256 .f32 := k0_pay699 (v830 d) (v854 d) (v861 d) (v869 d)
def v926 : FVec F S8x256 .f32 := k0_pay700 (v829 d) (v853 d) (v862 d) (v870 d)
def v927 : FVec F S8x256 .f32 := k0_pay701 (v828 d) (v852 d) (v863 d) (v871 d)
def v928 : FVec F S8x256 .f32 := k0_pay702 (v831 d) (v839 d) (v855 d) (v863 d) (v864 d) (v868 d) (v872 d) (v876 d)
def v929 : FVec F S8x256 .f32 := k0_pay703 (v830 d) (v838 d) (v854 d) (v861 d) (v862 d) (v865 d) (v869 d) (v873 d)
def v930 : FVec F S8x256 .f32 := k0_pay704 (v829 d) (v837 d) (v853 d) (v861 d) (v862 d) (v866 d) (v870 d) (v874 d)
def v931 : FVec F S8x256 .f32 := k0_pay705 (v828 d) (v836 d) (v852 d) (v860 d) (v863 d) (v867 d) (v871 d) (v875 d)
def v932 : FVec F S8x256 .f32 := k0_pay706 (v831 d) (v839 d) (v855 d) (v863 d) (v864 d) (v868 d) (v872 d) (v876 d)
def v933 : FVec F S8x256 .f32 := k0_pay707 (v830 d) (v838 d) (v854 d) (v861 d) (v862 d) (v865 d) (v869 d) (v873 d)
def v934 : FVec F S8x256 .f32 := k0_pay708 (v829 d) (v837 d) (v853 d) (v861 d) (v862 d) (v866 d) (v870 d) (v874 d)
def v935 : FVec F S8x256 .f32 := k0_pay709 (v828 d) (v836 d) (v852 d) (v860 d) (v863 d) (v867 d) (v871 d) (v875 d)
def v936 : FVec F S8x256 .f32 := k0_pay710 (v829 d) (v831 d) (v837 d) (v839 d) (v853 d) (v855 d) (v861 d) (v862 d) (v863 d) (v864 d) (v866 d) (v868 d) (v870 d) (v872 d) (v874 d) (v876 d)
def v949 : FVec F S8x256 .f32 := k0_pay723 (v932 d) (v933 d) (v934 d) (v935 d)
def v950 : FVec F S8x256 .f32 := k0_pay724 (v932 d) (v933 d) (v934 d) (v935 d)
def v951 : FVec F S8x256 .f32 := k0_pay725 (v932 d) (v933 d) (v934 d) (v935 d)
def v964 : FVec F S8x256 .f32 := k0_pay738 (v920 d) (v921 d) (v922 d) (v923 d) (v924 d) (v925 d) (v926 d) (v927 d)
def v965 : FVec F S8x256 .f32 := k0_pay739 (v920 d) (v921 d) (v922 d) (v923 d) (v924 d) (v925 d) (v926 d) (v927 d)
def v966 : FVec F S8x256 .f32 := k0_pay740 (v920 d) (v921 d) (v922 d) (v923 d) (v924 d) (v925 d) (v926 d) (v927 d)
def v967 : FVec F S8x256 .f32 := k0_pay741 (v920 d) (v921 d) (v922 d) (v923 d) (v924 d) (v925 d) (v926 d) (v927 d)
def v972 : FVec F S8x256 .f32 := k0_pay746 (v920 d) (v921 d) (v922 d) (v923 d) (v924 d) (v925 d) (v926 d) (v927 d)
def v973 : FVec F S8x256 .f32 := k0_pay747 (v920 d) (v921 d) (v922 d) (v923 d) (v924 d) (v925 d) (v926 d) (v927 d)
def v974 : FVec F S8x256 .f32 := k0_pay748 (v920 d) (v921 d) (v922 d) (v923 d) (v924 d) (v925 d) (v926 d) (v927 d)
def v975 : FVec F S8x256 .f32 := k0_pay749 (v920 d) (v921 d) (v922 d) (v923 d) (v924 d) (v925 d) (v926 d) (v927 d)
def v976 : FVec F S4x256 .f32 := k0_pay750 (v929 d) (v931 d) (v936 d)
def v977 : FVec F S4x256 .f32 := k0_pay751 (v929 d) (v931 d) (v936 d)
def v978 : FVec F S4x256 .f32 := k0_pay752 (v928 d) (v929 d) (v930 d) (v931 d)
def v979 : FVec F S4x256 .f32 := k0_pay753 (v928 d) (v929 d) (v930 d) (v931 d)
def v980 : FVec F S4x256 .f32 := k0_pay754 (v932 d) (v933 d) (v934 d) (v935 d)
def v981 : FVec F S4x256 .f32 := k0_pay755 (v932 d) (v933 d) (v934 d) (v935 d)
def v982 : FVec F S4x256 .f32 := k0_pay756 (v932 d) (v933 d) (v934 d) (v935 d)
def v983 : FVec F S4x256 .f32 := k0_pay757 (v932 d) (v933 d) (v934 d) (v935 d)
def v984 : FVec F S4x256 .f32 := k0_pay758 (v920 d) (v921 d) (v922 d) (v923 d) (v924 d) (v925 d) (v926 d) (v927 d)
def v985 : FVec F S4x256 .f32 := k0_pay759 (v920 d) (v921 d) (v922 d) (v923 d) (v924 d) (v925 d) (v926 d) (v927 d)
def v986 : FVec F S4x256 .f32 := k0_pay760 (v920 d) (v921 d) (v922 d) (v923 d) (v924 d) (v925 d) (v926 d) (v927 d)
def v987 : FVec F S4x256 .f32 := k0_pay761 (v920 d) (v921 d) (v922 d) (v923 d) (v924 d) (v925 d) (v926 d) (v927 d)
def v988 : FVec F S4x256 .f32 := k0_pay762 (v920 d) (v921 d) (v922 d) (v923 d) (v924 d) (v925 d) (v926 d) (v927 d)
def v989 : FVec F S4x256 .f32 := k0_pay763 (v920 d) (v921 d) (v922 d) (v923 d) (v924 d) (v925 d) (v926 d) (v927 d)
def v990 : FVec F S4x256 .f32 := k0_pay764 (v920 d) (v921 d) (v922 d) (v923 d) (v924 d) (v925 d) (v926 d) (v927 d)
def v991 : FVec F S4x256 .f32 := k0_pay765 (v920 d) (v921 d) (v922 d) (v923 d) (v924 d) (v925 d) (v926 d) (v927 d)
def v992 : FVec F S4x256 .f32 := k0_pay766 (v929 d) (v931 d) (v936 d)
def v993 : FVec F S4x256 .f32 := k0_pay767 (v929 d) (v931 d) (v936 d)
def v994 : FVec F S4x256 .f32 := k0_pay768 (v928 d) (v929 d) (v930 d) (v931 d)
def v995 : FVec F S4x256 .f32 := k0_pay769 (v928 d) (v929 d) (v930 d) (v931 d)
def v996 : FVec F S4x256 .f32 := k0_pay770 (v932 d) (v933 d) (v934 d) (v935 d)
def v1032 : FVec F S4x256 .f32 := k0_pay795 (v951 d) (v975 d) (v976 d) (v984 d)
def v1033 : FVec F S4x256 .f32 := k0_pay796 (v950 d) (v974 d) (v977 d) (v985 d)
def v1034 : FVec F S4x256 .f32 := k0_pay797 (v949 d) (v973 d) (v978 d) (v986 d)
def v1035 : FVec F S4x256 .f32 := k0_pay798 (v972 d) (v979 d) (v987 d) (v996 d)
def v1036 : FVec F S4x256 .f32 := k0_pay799 (v967 d) (v980 d) (v988 d) (v995 d)
def v1037 : FVec F S4x256 .f32 := k0_pay800 (v966 d) (v981 d) (v989 d) (v994 d)
def v1038 : FVec F S4x256 .f32 := k0_pay801 (v965 d) (v982 d) (v990 d) (v993 d)
def v1039 : FVec F S4x256 .f32 := k0_pay802 (v964 d) (v983 d) (v991 d) (v992 d)
def v1044 : FVec F S4x256 .f32 := k0_pay807 (v951 d) (v967 d) (v975 d) (v976 d) (v980 d) (v984 d) (v988 d) (v995 d)
def v1045 : FVec F S4x256 .f32 := k0_pay808 (v950 d) (v966 d) (v974 d) (v977 d) (v981 d) (v985 d) (v989 d) (v994 d)
def v1046 : FVec F S4x256 .f32 := k0_pay809 (v949 d) (v965 d) (v973 d) (v978 d) (v982 d) (v986 d) (v990 d) (v993 d)
def v1047 : FVec F S4x256 .f32 := k0_pay810 (v964 d) (v972 d) (v979 d) (v983 d) (v987 d) (v991 d) (v992 d) (v996 d)
def v1052 : FVec F S4x256 .f32 := k0_pay815 (v949 d) (v950 d) (v951 d) (v964 d) (v965 d) (v966 d) (v967 d) (v972 d) (v973 d) (v974 d) (v975 d) (v976 d) (v977 d) (v978 d) (v979 d) (v980 d) (v981 d) (v982 d) (v983 d) (v984 d) (v985 d) (v986 d) (v987 d) (v988 d) (v989 d) (v990 d) (v991 d) (v992 d) (v993 d) (v994 d) (v995 d) (v996 d)
def v1053 : FVec F S4x256 .f32 := k0_pay816 (v949 d) (v950 d) (v951 d) (v964 d) (v965 d) (v966 d) (v967 d) (v972 d) (v973 d) (v974 d) (v975 d) (v976 d) (v977 d) (v978 d) (v979 d) (v980 d) (v981 d) (v982 d) (v983 d) (v984 d) (v985 d) (v986 d) (v987 d) (v988 d) (v989 d) (v990 d) (v991 d) (v992 d) (v993 d) (v994 d) (v995 d) (v996 d)
def v1054 : FVec F S4x256 .f32 := k0_pay817 (v949 d) (v950 d) (v951 d) (v964 d) (v965 d) (v966 d) (v967 d) (v972 d) (v973 d) (v974 d) (v975 d) (v976 d) (v977 d) (v978 d) (v979 d) (v980 d) (v981 d) (v982 d) (v983 d) (v984 d) (v985 d) (v986 d) (v987 d) (v988 d) (v989 d) (v990 d) (v991 d) (v992 d) (v993 d) (v994 d) (v995 d) (v996 d)
def v1055 : FVec F S4x256 .f32 := k0_pay818 (v949 d) (v950 d) (v951 d) (v964 d) (v965 d) (v966 d) (v967 d) (v972 d) (v973 d) (v974 d) (v975 d) (v976 d) (v977 d) (v978 d) (v979 d) (v980 d) (v981 d) (v982 d) (v983 d) (v984 d) (v985 d) (v986 d) (v987 d) (v988 d) (v989 d) (v990 d) (v991 d) (v992 d) (v993 d) (v994 d) (v995 d) (v996 d)
def v1056 : FVec F S4x256 .f32 := k0_pay819 (v949 d) (v951 d) (v965 d) (v967 d) (v973 d) (v975 d) (v976 d) (v978 d) (v980 d) (v982 d) (v984 d) (v986 d) (v988 d) (v990 d) (v993 d) (v995 d)
def v1085 : FVec F S4x256 .f32 := k0_pay848 (v1032 d) (v1033 d) (v1034 d) (v1035 d) (v1036 d) (v1037 d) (v1038 d) (v1039 d)
def v1086 : FVec F S4x256 .f32 := k0_pay849 (v1032 d) (v1033 d) (v1034 d) (v1035 d) (v1036 d) (v1037 d) (v1038 d) (v1039 d)
def v1087 : FVec F S4x256 .f32 := k0_pay850 (v1032 d) (v1033 d) (v1034 d) (v1035 d) (v1036 d) (v1037 d) (v1038 d) (v1039 d)
def v1088 : FVec F S2x256 .f32 := k0_pay851 (v1052 d)
def v1089 : FVec F S2x256 .f32 := k0_pay852 (v1053 d)
def v1090 : FVec F S2x256 .f32 := k0_pay853 (v1054 d)
def v1091 : FVec F S2x256 .f32 := k0_pay854 (v1055 d)
def v1092 : FVec F S2x256 .f32 := k0_pay855 (v1045 d) (v1047 d) (v1056 d)
def v1093 : FVec F S2x256 .f32 := k0_pay856 (v1045 d) (v1047 d) (v1056 d)
def v1094 : FVec F S2x256 .f32 := k0_pay857 (v1044 d) (v1045 d) (v1046 d) (v1047 d)
def v1095 : FVec F S2x256 .f32 := k0_pay858 (v1044 d) (v1045 d) (v1046 d) (v1047 d)
def v1096 : FVec F S2x256 .f32 := k0_pay859 (v1032 d) (v1033 d) (v1034 d) (v1035 d) (v1036 d) (v1037 d) (v1038 d) (v1039 d)
def v1097 : FVec F S2x256 .f32 := k0_pay860 (v1032 d) (v1033 d) (v1034 d) (v1035 d) (v1036 d) (v1037 d) (v1038 d) (v1039 d)
def v1098 : FVec F S2x256 .f32 := k0_pay861 (v1032 d) (v1033 d) (v1034 d) (v1035 d) (v1036 d) (v1037 d) (v1038 d) (v1039 d)
def v1099 : FVec F S2x256 .f32 := k0_pay862 (v1032 d) (v1033 d) (v1034 d) (v1035 d) (v1036 d) (v1037 d) (v1038 d) (v1039 d)
def v1100 : FVec F S2x256 .f32 := k0_pay863 (v1032 d) (v1033 d) (v1034 d) (v1035 d) (v1036 d) (v1037 d) (v1038 d) (v1039 d)
def v1101 : FVec F S2x256 .f32 := k0_pay864 (v1032 d) (v1033 d) (v1034 d) (v1035 d) (v1036 d) (v1037 d) (v1038 d) (v1039 d)
def v1102 : FVec F S2x256 .f32 := k0_pay865 (v1032 d) (v1033 d) (v1034 d) (v1035 d) (v1036 d) (v1037 d) (v1038 d) (v1039 d)
def v1103 : FVec F S2x256 .f32 := k0_pay866 (v1032 d) (v1033 d) (v1034 d) (v1035 d) (v1036 d) (v1037 d) (v1038 d) (v1039 d)
def v1104 : FVec F S2x256 .f32 := k0_pay867 (v1052 d)
def v1105 : FVec F S2x256 .f32 := k0_pay868 (v1053 d)
def v1106 : FVec F S2x256 .f32 := k0_pay869 (v1054 d)
def v1107 : FVec F S2x256 .f32 := k0_pay870 (v1055 d)
def v1108 : FVec F S2x256 .f32 := k0_pay871 (v1045 d) (v1047 d) (v1056 d)
def v1109 : FVec F S2x256 .f32 := k0_pay872 (v1045 d) (v1047 d) (v1056 d)
def v1110 : FVec F S2x256 .f32 := k0_pay873 (v1044 d) (v1045 d) (v1046 d) (v1047 d)
def v1111 : FVec F S2x256 .f32 := k0_pay874 (v1044 d) (v1045 d) (v1046 d) (v1047 d)
def v1112 : FVec F S2x256 .f32 := k0_pay875 (v1032 d) (v1033 d) (v1034 d) (v1035 d) (v1036 d) (v1037 d) (v1038 d) (v1039 d)
def v1113 : FVec F S2x256 .f32 := k0_pay876 (v1032 d) (v1033 d) (v1034 d) (v1035 d) (v1036 d) (v1037 d) (v1038 d) (v1039 d)
def v1114 : FVec F S2x256 .f32 := k0_pay877 (v1032 d) (v1033 d) (v1034 d) (v1035 d) (v1036 d) (v1037 d) (v1038 d) (v1039 d)
def v1115 : FVec F S2x256 .f32 := k0_pay878 (v1032 d) (v1033 d) (v1034 d) (v1035 d) (v1036 d) (v1037 d) (v1038 d) (v1039 d)
def v1116 : FVec F S2x256 .f32 := k0_pay879 (v1032 d) (v1033 d) (v1034 d) (v1035 d) (v1036 d) (v1037 d) (v1038 d) (v1039 d)
def v1144 : FVec F S2x256 .f32 := k0_pay904 (v1087 d) (v1088 d) (v1096 d) (v1111 d)
def v1145 : FVec F S2x256 .f32 := k0_pay905 (v1086 d) (v1089 d) (v1097 d) (v1110 d)
def v1146 : FVec F S2x256 .f32 := k0_pay906 (v1085 d) (v1090 d) (v1098 d) (v1109 d)
def v1147 : FVec F S2x256 .f32 := k0_pay907 (v1091 d) (v1099 d) (v1108 d) (v1116 d)
def v1148 : FVec F S2x256 .f32 := k0_pay908 (v1092 d) (v1100 d) (v1107 d) (v1115 d)
def v1149 : FVec F S2x256 .f32 := k0_pay909 (v1093 d) (v1101 d) (v1106 d) (v1114 d)
def v1150 : FVec F S2x256 .f32 := k0_pay910 (v1094 d) (v1102 d) (v1105 d) (v1113 d)
def v1151 : FVec F S2x256 .f32 := k0_pay911 (v1095 d) (v1103 d) (v1104 d) (v1112 d)
def v1164 : FVec F S2x256 .f32 := k0_pay924 (v1085 d) (v1086 d) (v1087 d) (v1088 d) (v1089 d) (v1090 d) (v1091 d) (v1092 d) (v1093 d) (v1094 d) (v1095 d) (v1096 d) (v1097 d) (v1098 d) (v1099 d) (v1100 d) (v1101 d) (v1102 d) (v1103 d) (v1104 d) (v1105 d) (v1106 d) (v1107 d) (v1108 d) (v1109 d) (v1110 d) (v1111 d) (v1112 d) (v1113 d) (v1114 d) (v1115 d) (v1116 d)
def v1165 : FVec F S2x256 .f32 := k0_pay925 (v1085 d) (v1086 d) (v1087 d) (v1088 d) (v1089 d) (v1090 d) (v1091 d) (v1092 d) (v1093 d) (v1094 d) (v1095 d) (v1096 d) (v1097 d) (v1098 d) (v1099 d) (v1100 d) (v1101 d) (v1102 d) (v1103 d) (v1104 d) (v1105 d) (v1106 d) (v1107 d) (v1108 d) (v1109 d) (v1110 d) (v1111 d) (v1112 d) (v1113 d) (v1114 d) (v1115 d) (v1116 d)
def v1166 : FVec F S2x256 .f32 := k0_pay926 (v1085 d) (v1086 d) (v1087 d) (v1088 d) (v1089 d) (v1090 d) (v1091 d) (v1092 d) (v1093 d) (v1094 d) (v1095 d) (v1096 d) (v1097 d) (v1098 d) (v1099 d) (v1100 d) (v1101 d) (v1102 d) (v1103 d) (v1104 d) (v1105 d) (v1106 d) (v1107 d) (v1108 d) (v1109 d) (v1110 d) (v1111 d) (v1112 d) (v1113 d) (v1114 d) (v1115 d) (v1116 d)
def v1167 : FVec F S2x256 .f32 := k0_pay927 (v1085 d) (v1086 d) (v1087 d) (v1088 d) (v1089 d) (v1090 d) (v1091 d) (v1092 d) (v1093 d) (v1094 d) (v1095 d) (v1096 d) (v1097 d) (v1098 d) (v1099 d) (v1100 d) (v1101 d) (v1102 d) (v1103 d) (v1104 d) (v1105 d) (v1106 d) (v1107 d) (v1108 d) (v1109 d) (v1110 d) (v1111 d) (v1112 d) (v1113 d) (v1114 d) (v1115 d) (v1116 d)
def v1172 : FVec F S2x256 .f32 := k0_pay932 (v1085 d) (v1086 d) (v1087 d) (v1088 d) (v1089 d) (v1090 d) (v1091 d) (v1092 d) (v1093 d) (v1094 d) (v1095 d) (v1096 d) (v1097 d) (v1098 d) (v1099 d) (v1100 d) (v1101 d) (v1102 d) (v1103 d) (v1104 d) (v1105 d) (v1106 d) (v1107 d) (v1108 d) (v1109 d) (v1110 d) (v1111 d) (v1112 d) (v1113 d) (v1114 d) (v1115 d) (v1116 d)
def v1173 : FVec F S2x256 .f32 := k0_pay933 (v1085 d) (v1086 d) (v1087 d) (v1088 d) (v1089 d) (v1090 d) (v1091 d) (v1092 d) (v1093 d) (v1094 d) (v1095 d) (v1096 d) (v1097 d) (v1098 d) (v1099 d) (v1100 d) (v1101 d) (v1102 d) (v1103 d) (v1104 d) (v1105 d) (v1106 d) (v1107 d) (v1108 d) (v1109 d) (v1110 d) (v1111 d) (v1112 d) (v1113 d) (v1114 d) (v1115 d) (v1116 d)
def v1174 : FVec F S2x256 .f32 := k0_pay934 (v1085 d) (v1086 d) (v1087 d) (v1088 d) (v1089 d) (v1090 d) (v1091 d) (v1092 d) (v1093 d) (v1094 d) (v1095 d) (v1096 d) (v1097 d) (v1098 d) (v1099 d) (v1100 d) (v1101 d) (v1102 d) (v1103 d) (v1104 d) (v1105 d) (v1106 d) (v1107 d) (v1108 d) (v1109 d) (v1110 d) (v1111 d) (v1112 d) (v1113 d) (v1114 d) (v1115 d) (v1116 d)
def v1175 : FVec F S2x256 .f32 := k0_pay935 (v1085 d) (v1086 d) (v1087 d) (v1088 d) (v1089 d) (v1090 d) (v1091 d) (v1092 d) (v1093 d) (v1094 d) (v1095 d) (v1096 d) (v1097 d) (v1098 d) (v1099 d) (v1100 d) (v1101 d) (v1102 d) (v1103 d) (v1104 d) (v1105 d) (v1106 d) (v1107 d) (v1108 d) (v1109 d) (v1110 d) (v1111 d) (v1112 d) (v1113 d) (v1114 d) (v1115 d) (v1116 d)
def v1176 : FVec F S2x256 .f32 := k0_pay936 (v1087 d) (v1088 d) (v1092 d) (v1096 d) (v1100 d) (v1107 d) (v1111 d) (v1115 d)
def v1205 : FVec F S1x256 .f32 := k0_pay960 (v1173 d)
def v1206 : FVec F S1x256 .f32 := k0_pay961 (v1174 d)
def v1207 : FVec F S1x256 .f32 := k0_pay962 (v1175 d)
def v1208 : FVec F S1x256 .f32 := k0_pay963 (v1145 d) (v1146 d) (v1147 d) (v1149 d) (v1150 d) (v1151 d) (v1176 d)
def v1209 : FVec F S1x256 .f32 := k0_pay964 (v1145 d) (v1146 d) (v1147 d) (v1149 d) (v1150 d) (v1151 d) (v1176 d)
def v1210 : FVec F S1x256 .f32 := k0_pay965 (v1145 d) (v1146 d) (v1147 d) (v1149 d) (v1150 d) (v1151 d) (v1176 d)
def v1211 : FVec F S1x256 .f32 := k0_pay966 (v1145 d) (v1146 d) (v1147 d) (v1149 d) (v1150 d) (v1151 d) (v1176 d)
def v1212 : FVec F S1x256 .f32 := k0_pay967 (v1144 d) (v1145 d) (v1146 d) (v1147 d) (v1148 d) (v1149 d) (v1150 d) (v1151 d)
def v1213 : FVec F S1x256 .f32 := k0_pay968 (v1144 d) (v1145 d) (v1146 d) (v1147 d) (v1148 d) (v1149 d) (v1150 d) (v1151 d)
def v1214 : FVec F S1x256 .f32 := k0_pay969 (v1144 d) (v1145 d) (v1146 d) (v1147 d) (v1148 d) (v1149 d) (v1150 d) (v1151 d)
def v1215 : FVec F S1x256 .f32 := k0_pay970 (v1144 d) (v1145 d) (v1146 d) (v1147 d) (v1148 d) (v1149 d) (v1150 d) (v1151 d)
def v1216 : FVec F S1x256 .f32 := k0_pay971 (v1164 d)
def v1217 : FVec F S1x256 .f32 := k0_pay972 (v1165 d)
def v1218 : FVec F S1x256 .f32 := k0_pay973 (v1166 d)
def v1219 : FVec F S1x256 .f32 := k0_pay974 (v1167 d)
def v1220 : FVec F S1x256 .f32 := k0_pay975 (v1172 d)
def v1221 : FVec F S1x256 .f32 := k0_pay976 (v1173 d)
def v1222 : FVec F S1x256 .f32 := k0_pay977 (v1174 d)
def v1223 : FVec F S1x256 .f32 := k0_pay978 (v1175 d)
def v1224 : FVec F S1x256 .f32 := k0_pay979 (v1145 d) (v1146 d) (v1147 d) (v1149 d) (v1150 d) (v1151 d) (v1176 d)
def v1225 : FVec F S1x256 .f32 := k0_pay980 (v1145 d) (v1146 d) (v1147 d) (v1149 d) (v1150 d) (v1151 d) (v1176 d)
def v1226 : FVec F S1x256 .f32 := k0_pay981 (v1145 d) (v1146 d) (v1147 d) (v1149 d) (v1150 d) (v1151 d) (v1176 d)
def v1232 : FVec F S1x256 .f32 := k0_pay982 (v1144 d) (v1145 d) (v1146 d) (v1147 d) (v1148 d) (v1149 d) (v1150 d) (v1151 d) (v1164 d)
def v1233 : FVec F S1x256 .f32 := k0_pay983 (v1144 d) (v1145 d) (v1146 d) (v1147 d) (v1148 d) (v1149 d) (v1150 d) (v1151 d) (v1165 d)
def v1234 : FVec F S1x256 .f32 := k0_pay984 (v1144 d) (v1145 d) (v1146 d) (v1147 d) (v1148 d) (v1149 d) (v1150 d) (v1151 d) (v1166 d)
def v1235 : FVec F S1x256 .f32 := k0_pay985 (v1144 d) (v1145 d) (v1146 d) (v1147 d) (v1148 d) (v1149 d) (v1150 d) (v1151 d) (v1167 d)
def v1236 : FVec F S1x256 .f32 := k0_pay986 (v1145 d) (v1146 d) (v1147 d) (v1149 d) (v1150 d) (v1151 d) (v1172 d) (v1176 d)

/-- The sixteen vectors held: the sixteen column slices of the block. -/
def stage0 : Fin 16 → FVec F S256x1024 .f32 :=
  ![v34 d,
    v35 d,
    v36 d,
    k0_pay8 d,
    k0_pay9 d,
    k0_pay10 d,
    k0_pay11 d,
    k0_pay12 d,
    k0_pay13 d,
    k0_pay14 d,
    k0_pay15 d,
    k0_pay16 d,
    v46 d,
    v47 d,
    v48 d,
    v49 d]

/-- The sixteen vectors held: the sixteen slices, sorted position by position. -/
def stage1 : Fin 16 → FVec F S256x1024 .f32 :=
  ![v126 d,
    k0_pay133 (v138 d) (v144 d),
    k0_pay134 (v138 d) (v144 d),
    k0_pay135 (v139 d) (v156 d),
    k0_pay136 (v139 d) (v156 d),
    k0_pay137 (v140 d) (v148 d) (v150 d),
    k0_pay138 (v140 d) (v148 d) (v150 d),
    k0_pay139 (v141 d) (v149 d) (v154 d),
    k0_pay140 (v141 d) (v149 d) (v154 d),
    k0_pay141 (v142 d) (v149 d) (v154 d),
    k0_pay142 (v142 d) (v149 d) (v154 d),
    k0_pay143 (v143 d) (v147 d) (v155 d),
    k0_pay144 (v143 d) (v147 d) (v155 d),
    k0_pay145 (v135 d) (v147 d) (v155 d),
    k0_pay146 (v135 d) (v147 d) (v155 d),
    v153 d]

/-- The sixteen vectors held: after folding to 512 lanes. -/
def stage2 : Fin 16 → FVec F S256x512 .f32 :=
  ![v252 d,
    v253 d,
    v254 d,
    v255 d,
    v260 d,
    v261 d,
    v262 d,
    v263 d,
    v276 d,
    k0_pay230 (v272 d) (v273 d),
    k0_pay231 (v274 d) (v275 d),
    k0_pay232 (v274 d) (v275 d),
    k0_pay237 (v268 d) (v269 d) (v270 d) (v271 d),
    k0_pay238 (v268 d) (v269 d) (v270 d) (v271 d),
    k0_pay239 (v268 d) (v269 d) (v270 d) (v271 d),
    k0_pay240 (v268 d) (v269 d) (v270 d) (v271 d)]

/-- The sixteen vectors held: after folding to 256 lanes. -/
def stage3 : Fin 16 → FVec F S256x256 .f32 :=
  ![v364 d,
    v365 d,
    v366 d,
    v367 d,
    v372 d,
    v373 d,
    v374 d,
    v375 d,
    v388 d,
    v389 d,
    v390 d,
    v391 d,
    v396 d,
    k0_pay318 (v392 d) (v393 d),
    k0_pay319 (v394 d) (v395 d),
    k0_pay320 (v394 d) (v395 d)]

/-- The sixteen vectors held: after folding to 128 lanes and transposing. -/
def stage4 : Fin 16 → FVec F S128x256 .f32 :=
  ![v512 d,
    v513 d,
    v514 d,
    v515 d,
    v516 d,
    k0_pay401 (v485 d),
    k0_pay402 (v486 d),
    k0_pay403 (v487 d),
    k0_pay404 (v500 d),
    k0_pay405 (v501 d),
    k0_pay406 (v502 d),
    k0_pay407 (v503 d),
    k0_pay408 (v508 d),
    k0_pay409 (v509 d),
    k0_pay410 (v510 d),
    k0_pay411 (v511 d)]

/-- The sixteen vectors held: after folding to 64 rows. -/
def stage5 : Fin 16 → FVec F S64x256 .f32 :=
  ![v604 d,
    v605 d,
    v606 d,
    v607 d,
    v612 d,
    v613 d,
    v614 d,
    v615 d,
    v628 d,
    v629 d,
    v630 d,
    v631 d,
    v636 d,
    k0_pay489 (v632 d) (v633 d),
    k0_pay490 (v634 d) (v635 d),
    k0_pay491 (v634 d) (v635 d)]

/-- The sixteen vectors held: after folding to 32 rows. -/
def stage6 : Fin 16 → FVec F S32x256 .f32 :=
  ![v716 d,
    v717 d,
    v718 d,
    v719 d,
    v724 d,
    v725 d,
    v726 d,
    v727 d,
    v740 d,
    v741 d,
    v742 d,
    v743 d,
    v748 d,
    v749 d,
    v750 d,
    v751 d]

/-- The sixteen vectors held: after folding to 16 rows. -/
def stage7 : Fin 16 → FVec F S16x256 .f32 :=
  ![v828 d,
    v829 d,
    v830 d,
    v831 d,
    v836 d,
    v837 d,
    v838 d,
    v839 d,
    v852 d,
    v853 d,
    v854 d,
    v855 d,
    v860 d,
    v861 d,
    v862 d,
    v863 d]

/-- The sixteen vectors held: after folding to 8 rows. -/
def stage8 : Fin 16 → FVec F S8x256 .f32 :=
  ![k0_pay714 (v929 d) (v931 d) (v936 d),
    k0_pay715 (v929 d) (v931 d) (v936 d),
    k0_pay716 (v928 d) (v929 d) (v930 d) (v931 d),
    k0_pay717 (v928 d) (v929 d) (v930 d) (v931 d),
    k0_pay722 (v932 d) (v933 d) (v934 d) (v935 d),
    v949 d,
    v950 d,
    v951 d,
    v964 d,
    v965 d,
    v966 d,
    v967 d,
    v972 d,
    v973 d,
    v974 d,
    v975 d]

/-- The sixteen vectors held: after folding to 4 rows. -/
def stage9 : Fin 16 → FVec F S4x256 .f32 :=
  ![v1052 d,
    v1053 d,
    v1054 d,
    v1055 d,
    k0_pay823 (v1045 d) (v1047 d) (v1056 d),
    k0_pay824 (v1045 d) (v1047 d) (v1056 d),
    k0_pay825 (v1044 d) (v1045 d) (v1046 d) (v1047 d),
    k0_pay826 (v1044 d) (v1045 d) (v1046 d) (v1047 d),
    k0_pay839 (v1032 d) (v1033 d) (v1034 d) (v1035 d) (v1036 d) (v1037 d) (v1038 d) (v1039 d),
    k0_pay840 (v1032 d) (v1033 d) (v1034 d) (v1035 d) (v1036 d) (v1037 d) (v1038 d) (v1039 d),
    k0_pay841 (v1032 d) (v1033 d) (v1034 d) (v1035 d) (v1036 d) (v1037 d) (v1038 d) (v1039 d),
    k0_pay842 (v1032 d) (v1033 d) (v1034 d) (v1035 d) (v1036 d) (v1037 d) (v1038 d) (v1039 d),
    k0_pay847 (v1032 d) (v1033 d) (v1034 d) (v1035 d) (v1036 d) (v1037 d) (v1038 d) (v1039 d),
    v1085 d,
    v1086 d,
    v1087 d]

/-- The sixteen vectors held: after folding to 2 rows. -/
def stage10 : Fin 16 → FVec F S2x256 .f32 :=
  ![v1164 d,
    v1165 d,
    v1166 d,
    v1167 d,
    v1172 d,
    v1173 d,
    v1174 d,
    v1175 d,
    k0_pay948 (v1145 d) (v1146 d) (v1147 d) (v1149 d) (v1150 d) (v1151 d) (v1176 d),
    k0_pay949 (v1145 d) (v1146 d) (v1147 d) (v1149 d) (v1150 d) (v1151 d) (v1176 d),
    k0_pay950 (v1145 d) (v1146 d) (v1147 d) (v1149 d) (v1150 d) (v1151 d) (v1176 d),
    k0_pay951 (v1145 d) (v1146 d) (v1147 d) (v1149 d) (v1150 d) (v1151 d) (v1176 d),
    k0_pay956 (v1144 d) (v1145 d) (v1146 d) (v1147 d) (v1148 d) (v1149 d) (v1150 d) (v1151 d),
    k0_pay957 (v1144 d) (v1145 d) (v1146 d) (v1147 d) (v1148 d) (v1149 d) (v1150 d) (v1151 d),
    k0_pay958 (v1144 d) (v1145 d) (v1146 d) (v1147 d) (v1148 d) (v1149 d) (v1150 d) (v1151 d),
    k0_pay959 (v1144 d) (v1145 d) (v1146 d) (v1147 d) (v1148 d) (v1149 d) (v1150 d) (v1151 d)]

end Cert.KernelIdeal.Select

end
-- ==== Proof.Stages.lean ====
module

public import proofs.«01_k».proof.Proof.Net
public import proofs.«01_k».proof.Proof.Held

@[expose] public section

noncomputable section

/-!
  The sixteen vectors the kernel holds after each step of its selection are the network's: the slices sorted, then folded ten
  times, then the least of the last fold's sixteen.
-/

namespace Cert.KernelIdeal.Select

open Idealize.ShloMosaic Idealize.ShloMosaic.SortNet Cert.KernelIdeal Cert.KernelIdeal.Gen

variable {F : FTy → Type} [FloatOps F] (d : Vec F S256x16384 .f32)

/-- After the sort the kernel holds the sixteen slices sorted. -/
theorem stage1_eq : stage1 d = network sortNet (stage0 d) := by
  funext i
  fin_cases i <;> rfl

/-- After the first fold. -/
theorem stage2_eq : stage2 d = fold _ _ slices_S256x1024_o0_0_S256x512 slices_S256x1024_o0_512_S256x512 (stage1 d) := by
  funext i
  fin_cases i <;> rfl

/-- After fold 2. -/
theorem stage3_eq : stage3 d = fold _ _ slices_S256x512_o0_0_S256x256 slices_S256x512_o0_256_S256x256 (stage2 d) := by
  funext i
  fin_cases i <;> rfl

/-- After fold 3; the vectors are then transposed. -/
theorem stage4_eq : stage4 d = fun i => transpose S128x256 [1, 0] ((fold _ _ slices_S256x256_o0_0_S256x128 slices_S256x256_o0_128_S256x128 (stage3 d)) i) transposes_S256x128_p1_0_S128x256 := by
  funext i
  fin_cases i <;> rfl

/-- After fold 4. -/
theorem stage5_eq : stage5 d = fold _ _ slices_S128x256_o0_0_S64x256 slices_S128x256_o64_0_S64x256 (stage4 d) := by
  funext i
  fin_cases i <;> rfl

/-- After fold 5. -/
theorem stage6_eq : stage6 d = fold _ _ slices_S64x256_o0_0_S32x256 slices_S64x256_o32_0_S32x256 (stage5 d) := by
  funext i
  fin_cases i <;> rfl

/-- After fold 6. -/
theorem stage7_eq : stage7 d = fold _ _ slices_S32x256_o0_0_S16x256 slices_S32x256_o16_0_S16x256 (stage6 d) := by
  funext i
  fin_cases i <;> rfl

/-- After fold 7. -/
theorem stage8_eq : stage8 d = fold _ _ slices_S16x256_o0_0_S8x256 slices_S16x256_o8_0_S8x256 (stage7 d) := by
  funext i
  fin_cases i <;> rfl

/-- After fold 8. -/
theorem stage9_eq : stage9 d = fold _ _ slices_S8x256_o0_0_S4x256 slices_S8x256_o4_0_S4x256 (stage8 d) := by
  funext i
  fin_cases i <;> rfl

/-- After fold 9. -/
theorem stage10_eq : stage10 d = fold _ _ slices_S4x256_o0_0_S2x256 slices_S4x256_o2_0_S2x256 (stage9 d) := by
  funext i
  fin_cases i <;> rfl

/-- The selection's last vector: the least of the last fold's sixteen, one entry per query of the block. -/
def threshold : FVec F S1x256 .f32 :=
  least (folded _ _ slices_S2x256_o0_0_S1x256 slices_S2x256_o1_0_S1x256 (stage10 d))

/-- The weighted sums of one block: the distances at or above the threshold, times the table `y`. -/
def sums (t : FVec F S1x256 .f32) (y : Vec F S16384x17 .f32) : FVec F S256x17 .f32 :=
  matmul dot_S256x16384_S16384x17_S256x17_1_0_0_1_n_n none
    (select (cmpf .oge d (broadcastTo S256x16384 (transpose S256x1 [1, 0] t transposes_S1x256_p1_0_S256x1)
      broadcasts_S256x1_S256x16384)) d (broadcast S256x16384 (Scalar.ofBits .f32 0x00000000#32)))
    (shapeCast S16384x17 y shapeCasts_S16384x17_S16384x17) (constant S256x17 .f32 0x00000000#32)

/-- The body's product of the selected weights with the table, in the vectors named here. -/
theorem product_eq (y : Vec F S16384x17 .f32) :
    k0_pay988 d (v1206 d) (v1208 d) (v1210 d) (v1212 d) (v1214 d) (v1217 d) (v1219 d) (v1221 d) (v1223 d) (v1225 d) (v1232 d)
      (v1234 d) (v1236 d) (k0_pay987 (v1205 d) (v1207 d) (v1209 d) (v1211 d) (v1213 d) (v1215 d) (v1216 d) (v1218 d) (v1220 d)
        (v1222 d) (v1224 d) (v1226 d) (v1233 d) (v1235 d)) y = sums d (threshold d) y := rfl

end Cert.KernelIdeal.Select

end
-- ==== Proof.Body.lean ====
module

public import proofs.«01_k».proof.Proof.Stages
public import proofs.«01_k».proof.Proof.Gen.KernelIdeal.Value
public import Idealize.ShloMosaic.Lib.Pipeline.ValueKit
public import Idealize.ShloMosaic.Lib.Pipeline.ReadBack

@[expose] public section

noncomputable section

/-!
  What one grid point leaves: the block of outputs and the carried row of train norms.
-/

namespace Cert.KernelIdeal.Select

open Idealize.ShloMosaic Idealize.ShloMosaic.TcCoe Idealize.SL.Sem Cert.KernelIdeal Cert.KernelIdeal.Gen Cert.KernelIdeal.Value

variable {F : FTy → Type} [FloatOps F] (m : (ℓ : Loc nD τ sig) → Buf (Elt F) ℓ)

/-- A block's outputs from its inverse distances and the table: each weighted sum over the sum of the weights. -/
def blockOut (d : Vec F S256x16384 .f32) (y : Vec F S16384x17 .f32) : FVec F S256x16 .f32 :=
  k0_pay1 (sums d (threshold d) y) (k0_pay989 (sums d (threshold d) y))

/-- The first point leaves its block of outputs and the row of train norms it computed. -/
theorem outA (c : Dev nD) (t : Fin cfg0.N) (h0 : t.val % 16 = 0) : outsAt0 m c t.val t.isLt =
    (blockOut (k0_pay4 (iblk m c 3 t) (iblk m c 0 t) (iblk m c 1 t) (k0_pay3 (iblk m c 3 t) (iblk m c 1 t))) (iblk m c 2 t), k0_pay3 (iblk m c 3 t) (iblk m c 1 t)) := by
  rw [outsAt0_A m c t h0]
  refine Prod.ext ?_ (by frame_out)
  dsimp only
  unfold out0_A_4
  rw [View.read_writes_junk_eq_canon]
  unfold kernelRun0_A
  dsimp only
  rw [View.canon_cons_unit_lit _ _ _ (by decide)]
  refine (congrArg (fun n => k0_pay1 n (k0_pay989 n)) (product_eq (kernelRun0_A.sl.v33 c (ms0_0 t) (hs0_0 t) (ms0_1 t) (hs0_1 t) (ms0_3 t) (hs0_3 t) scM0_0 scM0_1
    (iblk m c 0 t) (iblk m c 1 t) (iblk m c 3 t)) _)).trans ?_
  unfold blockOut
  dsimp only
  frame_out

/-- A later point leaves its block of outputs and the row of train norms it found. -/
theorem outB (c : Dev nD) (t : Fin cfg0.N) (h0 : ¬t.val % 16 = 0) : outsAt0 m c t.val t.isLt =
    (blockOut (k0_pay4 (iblk m c 3 t) (iblk m c 0 t) (iblk m c 1 t) ((outsAt0 m c (t.val - 1) (Nat.lt_of_le_of_lt (Nat.sub_le _ _) t.isLt)).2)) (iblk m c 2 t), (outsAt0 m c (t.val - 1) (Nat.lt_of_le_of_lt (Nat.sub_le _ _) t.isLt)).2) := by
  rw [outsAt0_B m c t h0]
  refine Prod.ext ?_ rfl
  dsimp only
  unfold out0_B_4
  rw [View.read_writes_junk_eq_canon]
  unfold kernelRun0_B
  dsimp only
  rw [View.canon_cons_unit_lit _ _ _ (by decide)]
  refine (congrArg (fun n => k0_pay1 n (k0_pay989 n)) (product_eq (kernelRun0_B.sl.v33 _ _ _ _ _ _ _ _ _ _ _ _ _ _) _)).trans ?_
  unfold blockOut
  dsimp only
  frame_out [read_unread_whole]

end Cert.KernelIdeal.Select

end
-- ==== Proof.Top.lean ====
module

public import proofs.«01_k».proof.Proof.Net
public import Idealize.ShloMosaic.Lib.SortNet.Fold
public import Mathlib.Data.List.OfFn
public import Mathlib.Data.List.FinRange

@[expose] public section

/-!
  The sixteen greatest entries of a list with repeats, held in descending order, and how the networks keep them.
-/

namespace Cert.KernelIdeal.Select

open Idealize.ShloMosaic.SortNet

variable {α : Type*} [LinearOrder α]

/-- `A` holds the sixteen greatest entries of `L`, greatest first. -/
def Holds (A : Fin 16 → α) (L : List α) : Prop := Antitone A ∧ List.ofFn A = topList 16 L

/-- The order of the list does not matter. -/
theorem Holds.perm {A : Fin 16 → α} {L M : List α} (h : Holds A L) (p : L.Perm M) : Holds A M :=
  ⟨h.1, h.2.trans (topList_perm p)⟩

/-- The sixteen greatest are determined. -/
theorem Holds.unique {A B : Fin 16 → α} {L : List α} (h : Holds A L) (h' : Holds B L) : A = B :=
  List.ofFn_injective (h.2.trans h'.2.symm)

/-- The sort leaves the sixteen entries in order. -/
theorem holds_sort (v : Fin 16 → α) : Holds (Network.apply sortNet v) (List.ofFn v) := by
  rw [sortNet_eq]
  exact ⟨oddEvenNet_antitone 4 v, ofFn_oddEvenNet 4 v⟩

/-- A fold of two families: the greater of entry `i` of one and entry `15 - i` of the other, merged, holds the sixteen greatest
of both. -/
theorem holds_fold {A B : Fin 16 → α} {L M : List α} (hA : Holds A L) (hB : Holds B M) :
    Holds (Network.apply mergeNet fun i => max (A i) (B i.rev)) (L ++ M) := by
  have hrev : Monotone fun i : Fin 16 => B i.rev := fun i j hij => hB.1 (Fin.rev_le_rev.mpr hij)
  obtain ⟨h₁, h₂⟩ := foldStep 4 A (fun i : Fin 16 => B i.rev) hA.1 hrev
  rw [mergeNet_eq]
  refine ⟨h₁, h₂.trans ?_⟩
  have hp : (List.ofFn fun i : Fin 16 => B i.rev).Perm (List.ofFn B) :=
    Equiv.Perm.ofFn_comp_perm (Fin.revPerm : Equiv.Perm (Fin 16)) B
  refine (topList_perm (hp.append_left (List.ofFn A))).trans ?_
  rw [hA.2, hB.2]
  exact topList_append_topList_topList 16 L M

/-- `t` is the sixteenth greatest entry of `L`. -/
def IsLeastHeld (t : α) (L : List α) : Prop := ∃ C : Fin 16 → α, Holds C L ∧ t = C 15

/-- The sixteenth greatest entry is determined. -/
theorem IsLeastHeld.unique {t u : α} {L : List α} (h : IsLeastHeld t L) (h' : IsLeastHeld u L) : t = u := by
  obtain ⟨C, hC, rfl⟩ := h
  obtain ⟨D, hD, rfl⟩ := h'
  rw [hC.unique hD]

/-- The sixteenth greatest entry of a list is at most `t` as soon as `t` is one of the sixteen, and is `t` when `t` is the least of
them. -/
theorem Holds.isLeastHeld {C : Fin 16 → α} {L : List α} (h : Holds C L) {t : α} (hle : ∀ i, t ≤ C i) (hmem : ∃ i, t = C i) :
    IsLeastHeld t L := by
  refine ⟨C, h, le_antisymm (hle 15) ?_⟩
  obtain ⟨i, rfl⟩ := hmem
  exact h.1 (Fin.le_last i)

/-- The least of the sixteen entries a last fold starts from is the sixteenth greatest of both lists: no merge is needed. -/
theorem isLeastHeld_fold {A B : Fin 16 → α} {L M : List α} (hA : Holds A L) (hB : Holds B M) {t : α}
    (hle : ∀ i, t ≤ max (A i) (B i.rev)) (hmem : ∃ i, t = max (A i) (B i.rev)) : IsLeastHeld t (L ++ M) := by
  obtain ⟨σ, hσ⟩ := Network.exists_perm mergeNet fun i => max (A i) (B i.rev)
  have hval : ∀ i, Network.apply mergeNet (fun i => max (A i) (B i.rev)) i = max (A (σ i)) (B (σ i).rev) := fun i => congrFun hσ i
  refine (holds_fold hA hB).isLeastHeld (fun i => (hval i).symm ▸ hle (σ i)) ?_
  obtain ⟨i, hi⟩ := hmem
  refine ⟨σ.symm i, ?_⟩
  rw [hval, Equiv.apply_symm_apply]
  exact hi

/-- The first sixteen entries of a row put in descending order are its sixteen greatest. -/
theorem holds_of_sorted {n : Nat} (hn : 16 ≤ n) (v : Fin n → α) (σ : Fin n → Fin n) (hσ : Function.Bijective σ) (h : Antitone fun i => v (σ i)) :
    Holds (fun i : Fin 16 => v (σ (i.castLE hn))) (List.ofFn v) := by
  refine ⟨fun i j hij => h (show i.castLE hn ≤ j.castLE hn from hij), ?_⟩
  have hp : (List.ofFn fun i => v (σ i)).Perm ((List.ofFn v).insertionSort (· ≥ ·)) :=
    (Equiv.Perm.ofFn_comp_perm (Equiv.ofBijective σ hσ) v).trans (List.perm_insertionSort (· ≥ ·) _).symm
  unfold topList
  rw [← eq_of_perm_of_descending hp (List.pairwise_ofFn.mpr fun i j hij => h hij.le) (List.pairwise_insertionSort (· ≥ ·) _)]
  refine List.ext_getElem ?_ fun i h₁ h₂ => ?_
  · rw [List.length_take, List.length_ofFn, List.length_ofFn, min_eq_left hn]
  · rw [List.getElem_take, List.getElem_ofFn, List.getElem_ofFn]
    rfl

/-- The sixteenth greatest entry of a row is an entry of it. -/
theorem IsLeastHeld.mem {t : α} {L : List α} (h : IsLeastHeld t L) : t ∈ L := by
  obtain ⟨C, hC, rfl⟩ := h
  exact mem_of_mem_topList (hC.2 ▸ List.mem_ofFn.mpr ⟨15, rfl⟩)

/-- The entries of the row `r` whose position is `p` modulo `w`. -/
def lanes (w p : Nat) (r : Fin 16384 → α) : List α := ((List.finRange 16384).filter fun j => j.val % w = p).map r

/-- The entries `p` and `p + w` modulo `2 * w` are those `p` modulo `w`. -/
theorem lanes_halve (w p : Nat) (hp : p < w) (r : Fin 16384 → α) :
    (lanes (2 * w) p r ++ lanes (2 * w) (w + p) r).Perm (lanes w p r) := by
  unfold lanes
  rw [← List.map_append]
  refine List.Perm.map r ?_
  have key : ∀ j : Nat, (j % (2 * w) = p ∨ j % (2 * w) = w + p) ↔ j % w = p := fun j => by
    have h0 := Nat.mod_lt j (Nat.lt_of_le_of_lt (Nat.zero_le p) hp)
    have h1 : j % (2 * w) = j % w + w * (j / w % 2) := by rw [Nat.mul_comm 2 w, Nat.mod_mul]
    rcases Nat.mod_two_eq_zero_or_one (j / w) with h | h <;> rw [h] at h1 <;> omega
  refine (List.perm_ext_iff_of_nodup ?_ ((List.nodup_finRange _).filter _)).mpr fun j => ?_
  · refine List.nodup_append.mpr ⟨(List.nodup_finRange _).filter _, (List.nodup_finRange _).filter _, fun a ha b hb e => ?_⟩
    subst e
    have h1 := of_decide_eq_true (List.mem_filter.mp ha).2
    have h2 := of_decide_eq_true (List.mem_filter.mp hb).2
    omega
  · simp only [List.mem_append, List.mem_filter, List.mem_finRange, true_and, decide_eq_true_eq]
    exact key j.val

/-- Modulo one, every entry. -/
theorem lanes_one (r : Fin 16384 → α) : lanes 1 0 r = List.ofFn r := by
  unfold lanes
  rw [List.filter_eq_self.mpr fun j _ => decide_eq_true (Nat.mod_one j.val), List.ofFn_eq_map]

/-- The sixteen entries at distance 1024 are those of one class modulo 1024. -/
theorem lanes_slices (p : Fin 1024) (r : Fin 16384 → α) :
    (List.ofFn fun i : Fin 16 => r ⟨i.val * 1024 + p.val, by omega⟩).Perm (lanes 1024 p.val r) := by
  rw [show (List.ofFn fun i : Fin 16 => r ⟨i.val * 1024 + p.val, by omega⟩) =
      (List.ofFn fun i : Fin 16 => (⟨i.val * 1024 + p.val, by omega⟩ : Fin 16384)).map r from by
    rw [List.map_ofFn]; rfl]
  unfold lanes
  refine List.Perm.map r ?_
  refine (List.perm_ext_iff_of_nodup (List.nodup_ofFn.mpr fun a b h => ?_) ((List.nodup_finRange _).filter _)).mpr fun j => ?_
  · have := congrArg Fin.val h
    exact Fin.ext (by simp only at this; omega)
  · simp only [List.mem_ofFn, List.mem_filter, List.mem_finRange, true_and, decide_eq_true_eq]
    constructor
    · rintro ⟨i, rfl⟩
      show (i.val * 1024 + p.val) % 1024 = p.val
      omega
    · intro h
      exact ⟨⟨j.val / 1024, by omega⟩, Fin.ext (by show j.val / 1024 * 1024 + p.val = j.val; omega)⟩

end Cert.KernelIdeal.Select
-- ==== Proof.Threshold.lean ====
module

public import proofs.«01_k».proof.Proof.Top
public import proofs.«01_k».proof.Proof.Stages
public import Idealize.ShloMosaic.Lib.Pointwise

@[expose] public section

noncomputable section

/-!
  The kernel's threshold, over the extended reals: entry `q` is the sixteenth greatest entry of row `q` of the distance block.
-/

namespace Cert.KernelIdeal.Select

open Idealize.ShloMosaic Idealize.ShloMosaic.SortNet Cert.KernelIdeal Cert.KernelIdeal.Gen

variable {s s' : Shape}

/-- One exchange of vectors exchanges the entries at every position. -/
theorem exchange_at (c : Cmpx 16) (l : Fin 16 → FVec Ideal s .f32) (j : s.Idx) :
    (fun k => exchange c l k j) = c.apply fun k => (l k j : EReal) := by
  funext k
  unfold exchange Cmpx.apply
  by_cases h₁ : k = c.lo
  · have h₂ : k ≠ c.hi := fun h => c.ne (h₁.symm.trans h)
    rw [if_neg h₂, if_pos h₁, if_pos h₁]
    exact min_comm _ _
  · by_cases h₂ : k = c.hi
    · rw [if_pos h₂, if_neg h₁, if_pos h₂]
      exact max_comm _ _
    · rw [if_neg h₂, if_neg h₁, if_neg h₁, if_neg h₂]

/-- A network of vectors is the network of the entries at every position. -/
theorem network_at (N : Network 16) (l : Fin 16 → FVec Ideal s .f32) (j : s.Idx) :
    (fun k => network N l k j) = N.apply fun k => (l k j : EReal) := by
  induction N generalizing l with
  | nil => rfl
  | cons c N ih =>
    show (fun k => network N (exchange c l) k j) = Network.apply N (c.apply fun k => (l k j : EReal))
    rw [ih, exchange_at]

/-- A fold, at a position: where the vectors held the sixteen greatest of `L` at the one source position and of `M` at the other,
they hold the sixteen greatest of both. -/
theorem holds_fold_at {o₁ o₂ : Fin s.rank → Nat} (h₁ : s.Slices o₁ s') (h₂ : s.Slices o₂ s') (l : Fin 16 → FVec Ideal s .f32)
    (j : s'.Idx) (j₁ j₂ : s.Idx) (e₁ : ∀ x : FVec Ideal s .f32, extractStridedSlice s' o₁ x h₁ j = x j₁)
    (e₂ : ∀ x : FVec Ideal s .f32, extractStridedSlice s' o₂ x h₂ j = x j₂) {L M : List EReal}
    (hL : Holds (fun i => (l i j₁ : EReal)) L) (hM : Holds (fun i => (l i j₂ : EReal)) M) :
    Holds (fun i => (fold o₁ o₂ h₁ h₂ l i j : EReal)) (L ++ M) := by
  have h : (fun i => (fold o₁ o₂ h₁ h₂ l i j : EReal)) =
      Network.apply mergeNet fun i => max (l i j₁ : EReal) (l i.rev j₂) := by
    unfold fold
    rw [network_at]
    refine congrArg _ (funext fun i => ?_)
    show max (extractStridedSlice s' o₁ (l i) h₁ j : EReal) (extractStridedSlice s' o₂ (l i.rev) h₂ j) = _
    exact congrArg₂ max (e₁ _) (e₂ _)
  have key := holds_fold (A := fun i => (l i j₁ : EReal)) (B := fun i => (l i j₂ : EReal)) hL hM
  rw [h]
  exact key

/-- A slice of a table, at an index: the entry at the offset. -/
theorem slice_at {a b m n o p : Nat} (h : (⟨2, ![a, b]⟩ : Shape).Slices ![o, p] ⟨2, ![m, n]⟩) (x : FVec Ideal ⟨2, ![a, b]⟩ .f32)
    (i : Fin m) (j : Fin n) (hi : o + i.val < a) (hj : p + j.val < b) :
    extractStridedSlice ⟨2, ![m, n]⟩ ![o, p] x h (ix2 i j) = x (ix2 ⟨o + i.val, hi⟩ ⟨p + j.val, hj⟩) :=
  congrArg x (funext fun d => Fin.ext (by fin_cases d <;> rfl))

/-- The vectors lie along the lanes: at row `q`, lane `p` they hold the sixteen greatest of row `q`'s entries at positions `p`
modulo the width. -/
def Along {a m : Nat} (r : Fin a → Fin 16384 → EReal) (l : Fin 16 → FVec Ideal ⟨2, ![a, m]⟩ .f32) : Prop :=
  ∀ (q : Fin a) (p : Fin m), Holds (fun i => (l i (ix2 q p) : EReal)) (lanes m p.val (r q))

/-- The vectors lie down the rows: the same, transposed. -/
def Down {a m : Nat} (r : Fin a → Fin 16384 → EReal) (l : Fin 16 → FVec Ideal ⟨2, ![m, a]⟩ .f32) : Prop :=
  ∀ (p : Fin m) (q : Fin a), Holds (fun i => (l i (ix2 p q) : EReal)) (lanes m p.val (r q))

/-- Folding the lanes in half keeps what the vectors hold. -/
theorem Along.halved {a m : Nat} {r : Fin a → Fin 16384 → EReal} {l : Fin 16 → FVec Ideal ⟨2, ![a, 2 * m]⟩ .f32} (H : Along r l)
    (h₁ : (⟨2, ![a, 2 * m]⟩ : Shape).Slices ![0, 0] ⟨2, ![a, m]⟩) (h₂ : (⟨2, ![a, 2 * m]⟩ : Shape).Slices ![0, m] ⟨2, ![a, m]⟩) :
    Along r (fold ![0, 0] ![0, m] h₁ h₂ l) := fun q p => by
  refine (holds_fold_at h₁ h₂ l (ix2 q p) (ix2 q ⟨p.val, by omega⟩) (ix2 q ⟨m + p.val, by omega⟩) (fun x => ?_) (fun x => ?_)
    (H _ _) (H _ _)).perm (lanes_halve m p.val p.isLt (r q))
  · rw [slice_at h₁ x q p (by omega) (by omega)]; simp only [Nat.zero_add]
  · rw [slice_at h₂ x q p (by omega) (by omega)]; simp only [Nat.zero_add]

/-- Folding the rows in half keeps what the vectors hold. -/
theorem Down.halved {a m : Nat} {r : Fin a → Fin 16384 → EReal} {l : Fin 16 → FVec Ideal ⟨2, ![2 * m, a]⟩ .f32} (H : Down r l)
    (h₁ : (⟨2, ![2 * m, a]⟩ : Shape).Slices ![0, 0] ⟨2, ![m, a]⟩) (h₂ : (⟨2, ![2 * m, a]⟩ : Shape).Slices ![m, 0] ⟨2, ![m, a]⟩) :
    Down r (fold ![0, 0] ![m, 0] h₁ h₂ l) := fun p q => by
  refine (holds_fold_at h₁ h₂ l (ix2 p q) (ix2 ⟨p.val, by omega⟩ q) (ix2 ⟨m + p.val, by omega⟩ q) (fun x => ?_) (fun x => ?_)
    (H _ _) (H _ _)).perm (lanes_halve m p.val p.isLt (r q))
  · rw [slice_at h₁ x p q (by omega) (by omega)]; simp only [Nat.zero_add]
  · rw [slice_at h₂ x p q (by omega) (by omega)]; simp only [Nat.zero_add]

/-- Transposed vectors lie down the rows. -/
theorem Along.turned {a m : Nat} {r : Fin a → Fin 16384 → EReal} {l : Fin 16 → FVec Ideal ⟨2, ![a, m]⟩ .f32} (H : Along r l)
    (h : (⟨2, ![a, m]⟩ : Shape).Transposes [1, 0] ⟨2, ![m, a]⟩) :
    Down r fun i => transpose ⟨2, ![m, a]⟩ [1, 0] (l i) h := fun p q => by
  have e : ∀ i, transpose ⟨2, ![m, a]⟩ [1, 0] (l i) h (ix2 p q) = l i (ix2 q p) := fun i =>
    congrArg (l i) (funext fun d => Fin.ext (by fin_cases d <;> rfl))
  simp only [e]
  exact H q p

/-- The least of sixteen vectors is, at every position, at most each of them and one of them. -/
theorem least_at (l : Fin 16 → FVec Ideal s .f32) (j : s.Idx) :
    (∀ i, (least l j : EReal) ≤ l i j) ∧ ∃ i, (least l j : EReal) = l i j := by
  have e : (least l j : EReal) = min (min (min (min (l 0 j) (l 8 j)) (min (l 4 j) (l 12 j))) (min (min (l 2 j) (l 10 j)) (min (l 6 j) (l 14 j))))
      (min (min (min (l 1 j) (l 9 j)) (min (l 5 j) (l 13 j))) (min (min (l 3 j) (l 11 j)) (min (l 7 j) (l 15 j)))) := rfl
  have pick : ∀ {x y : EReal}, (∃ i, x = l i j) → (∃ i, y = l i j) → ∃ i, min x y = l i j := fun {x y} hx hy => by
    rcases min_choice x y with h | h <;> rw [h] <;> assumption
  rw [e]
  constructor
  · intro i
    fin_cases i <;> simp only [min_le_iff, Fin.isValue] <;> simp
  · refine pick (pick (pick (pick ?_ ?_) (pick ?_ ?_)) (pick (pick ?_ ?_) (pick ?_ ?_)))
      (pick (pick (pick ?_ ?_) (pick ?_ ?_)) (pick (pick ?_ ?_) (pick ?_ ?_))) <;> exact ⟨_, rfl⟩

variable (d : FVec Ideal S256x16384 .f32)

/-- Row `q` of the block. -/
def row (q : Fin 256) : Fin 16384 → EReal := fun j => d (ix2 q j)

/-- The kernel's sixteen slices, read. -/
theorem stage0_at (i : Fin 16) (q : Fin 256) (p : Fin 1024) :
    (stage0 (F := Ideal) d i (ix2 q p) : EReal) = row d q ⟨i.val * 1024 + p.val, by omega⟩ := by
  fin_cases i <;> refine congrArg d (funext fun e => Fin.ext ?_) <;> match e with
    | ⟨0, _⟩ => exact Nat.zero_add _
    | ⟨1, _⟩ => rfl

/-- Sorted, the sixteen slices hold their sixteen entries at every position. -/
theorem along_stage1 : Along (a := 256) (m := 1024) (row d) (stage1 d) := fun q p => by
  rw [stage1_eq]
  have h := network_at sortNet (stage0 d) (ix2 q p)
  simp only [stage0_at] at h
  refine Holds.perm ?_ (lanes_slices p (row d q))
  rw [h]
  exact holds_sort _

/-- After the tenth fold two rows are left, the even positions' and the odd positions'. -/
theorem down_stage10 : Down (a := 256) (m := 2) (row d) (stage10 d) := by
  rw [stage10_eq]; refine Down.halved (m := 2) ?_ _ _
  rw [stage9_eq]; refine Down.halved (m := 4) ?_ _ _
  rw [stage8_eq]; refine Down.halved (m := 8) ?_ _ _
  rw [stage7_eq]; refine Down.halved (m := 16) ?_ _ _
  rw [stage6_eq]; refine Down.halved (m := 32) ?_ _ _
  rw [stage5_eq]; refine Down.halved (m := 64) ?_ _ _
  rw [stage4_eq]; refine Along.turned (m := 128) (Along.halved (m := 128) ?_ _ _) _
  rw [stage3_eq]; refine Along.halved (m := 256) ?_ _ _
  rw [stage2_eq]; refine Along.halved (m := 512) ?_ _ _
  exact along_stage1 d

/-- The threshold is the sixteenth greatest distance of the row. -/
theorem threshold_at (q : Fin 256) : IsLeastHeld (threshold (F := Ideal) d (ix2 0 q) : EReal) (List.ofFn (row d q)) := by
  have H := down_stage10 d
  have e : ∀ i, (folded _ _ slices_S2x256_o0_0_S1x256 slices_S2x256_o1_0_S1x256 (stage10 (F := Ideal) d) i (ix2 0 q) : EReal) =
      max (stage10 (F := Ideal) d i (ix2 0 q) : EReal) (stage10 (F := Ideal) d i.rev (ix2 1 q) : EReal) := fun i => by
    refine congrArg₂ (fun x y : EReal => max x y) (congrArg (stage10 (F := Ideal) d i) (funext fun e => Fin.ext ?_))
      (congrArg (stage10 (F := Ideal) d i.rev) (funext fun e => Fin.ext ?_)) <;> match e with
    | ⟨0, _⟩ => rfl
    | ⟨1, _⟩ => exact Nat.zero_add _
  obtain ⟨h₁, h₂⟩ := least_at (folded _ _ slices_S2x256_o0_0_S1x256 slices_S2x256_o1_0_S1x256 (stage10 d)) (ix2 0 q)
  simp only [e] at h₁ h₂
  have h := isLeastHeld_fold (H 0 q) (H 1 q) h₁ h₂
  obtain ⟨C, hC, hCe⟩ := h
  refine ⟨C, ?_, hCe⟩
  rw [← lanes_one]
  exact hC.perm (lanes_halve 1 0 Nat.one_pos (row d q))

end Cert.KernelIdeal.Select

end
-- ==== Proof.Block.lean ====
module

public import proofs.«01_k».proof.Proof.Body
public import proofs.«01_k».proof.Proof.Threshold

@[expose] public section

noncomputable section

/-!
  The kernel body's vectors at an index, over the extended reals.
-/

namespace Cert.KernelIdeal.Select

open Idealize.ShloMosaic Cert.KernelIdeal Cert.KernelIdeal.Gen

/-- The squared norms of the training points that the first point leaves: the sum over the features of the square times the squared
scale. -/
theorem k0_pay3_at (w : Vec Ideal S1x128 .f32) (t : Vec Ideal S128x16384 .f32) (j : Fin 16384) :
    k0_pay3 w t (ix2 0 j) = ∑ k : Fin 128, t (ix2 k j) * t (ix2 k j) * Ideal.exp (Ideal.ofBits .f32 0xC0000000#32 * w (ix2 0 k)) := by
  pointwise [k0_pay3, k0_pay2]

/-- The inverse distance of query `q` of the block to training point `j`. -/
theorem k0_pay4_at (w : Vec Ideal S1x128 .f32) (x : Vec Ideal S256x128 .f32) (t : Vec Ideal S128x16384 .f32)
    (y2 : Vec Ideal S1x16384 .f32) (q : Fin 256) (j : Fin 16384) :
    k0_pay4 w x t y2 (ix2 q j) = Ideal.rsqrt (max
      (∑ k : Fin 128, x (ix2 q k) * (x (ix2 q k) * Ideal.exp (Ideal.ofBits .f32 0xC0000000#32 * w (ix2 0 k))) + y2 (ix2 0 j) +
        ∑ k : Fin 128, Ideal.ofBits .f32 0xC0000000#32 * (x (ix2 q k) * Ideal.exp (Ideal.ofBits .f32 0xC0000000#32 * w (ix2 0 k))) *
          t (ix2 k j)) 0 + Ideal.ofBits .f32 0x358637BD#32) := by
  pointwise [k0_pay4, k0_pay2]

/-- The weighted sum of column `c` of the table over the training points whose inverse distance reaches the threshold. -/
theorem sums_at (d : Vec Ideal S256x16384 .f32) (t : FVec Ideal S1x256 .f32) (y : Vec Ideal S16384x17 .f32) (q : Fin 256) (c : Fin 17) :
    sums d t y (ix2 q c) = ∑ j : Fin 16384, (if t (ix2 0 q) ≤ d (ix2 q j) then d (ix2 q j) else 0) * y (ix2 j c) := by
  pointwise [sums]

/-- The block written: the weighted sum of each of the sixteen columns over that of the seventeenth. -/
theorem blockOut_at (d : Vec Ideal S256x16384 .f32) (y : Vec Ideal S16384x17 .f32) (q : Fin 256) (c : Fin 16) :
    blockOut d y (ix2 q c) = Ideal.div
      (∑ j : Fin 16384, (if threshold d (ix2 0 q) ≤ d (ix2 q j) then d (ix2 q j) else 0) * y (ix2 j ⟨c.val, by omega⟩))
      (∑ j : Fin 16384, (if threshold d (ix2 0 q) ≤ d (ix2 q j) then d (ix2 q j) else 0) * y (ix2 j 16)) := by
  have h : blockOut d y (ix2 q c) = Ideal.div (sums d (threshold d) y (ix2 q ⟨c.val, by omega⟩)) (sums d (threshold d) y (ix2 q 16)) := by
    pointwise [blockOut, k0_pay1, k0_pay989]
  rw [h, sums_at, sums_at]

end Cert.KernelIdeal.Select

end
-- ==== Proof.Arrays.lean ====
module

public import proofs.«01_k».proof.Proof.Block
public import proofs.«01_k».proof.Proof.Algebra
public import Idealize.ShloMosaic.Lib.StableHlo.Run

@[expose] public section

noncomputable section

/-!
  The blocks the grid points read, in the program's arguments, and the array the kernel leaves.
-/

namespace Cert.KernelIdeal.Select

open Idealize.ShloMosaic Idealize.ShloMosaic.TcCoe Idealize.SL.Sem Idealize.ShloMosaic.StableHlo
open Cert.KernelIdeal Cert.KernelIdeal.Gen Cert.KernelIdeal.Value

variable (m : (ℓ : Loc nD τ sig) → Buf (Elt Ideal) ℓ) (c : Dev nD)

/-- The queries, the training points, the training values and the log length scales, as launched. -/
abbrev argX : FVec Ideal S4096x128 .f32 := m ((c : Thread nD τ).loc main_arg0)
abbrev argT : FVec Ideal S16384x128 .f32 := m ((c : Thread nD τ).loc main_arg1)
abbrev argY : FVec Ideal S16384x16 .f32 := m ((c : Thread nD τ).loc main_arg2)
abbrev argW : FVec Ideal S128 .f32 := m ((c : Thread nD τ).loc main_arg3)

/-- The region finds the training points transposed. -/
theorem found_v0 : (V m c main_v0 : FVec Ideal S128x16384 .f32) =
    transpose S128x16384 [1, 0] (argT m c) transposes_S16384x128_S128x16384_1_0 := by
  simp only [V, hostOps0]
  after_results_simp

/-- The region finds the log length scales as one row. -/
theorem found_v1 : (V m c main_v1 : FVec Ideal S1x128 .f32) = shapeCast S1x128 (argW m c) shapeCasts_S128_S1x128 := by
  simp only [V, hostOps0]
  after_results_simp
  rfl

/-- The region finds the training values with a column of ones. -/
theorem found_v3 : (V m c main_v3 : FVec Ideal S16384x17 .f32) =
    concatenate S16384x17 1 [⟨S16384x16, argY m c⟩, ⟨S16384x1, broadcastInDim S16384x1 ![] bcast_S_S16384x1
      (constant (F := Ideal) S_ .f32 0x3F800000#32)⟩] concatenates_S16384x16_S16384x1_S16384x17_d1 := by
  simp only [V, hostOps0]
  after_results_simp
  refine congrArg₂ (fun (a : FVec Ideal S16384x16 .f32) (b : FVec Ideal S16384x1 .f32) =>
    concatenate S16384x17 1 [⟨S16384x16, a⟩, ⟨S16384x1, b⟩] concatenates_S16384x16_S16384x1_S16384x17_d1) ?_ ?_ <;>
    after_results_simp

/-- Where the windows' blocks lie: the queries' at the point's number, the others' always first. -/
theorem windows_at : ∀ t : Fin cfg0.N, win0_0.index t (0 : Fin 2) = t.val ∧ win0_0.index t (1 : Fin 2) = 0 ∧
    win0_1.index t (0 : Fin 2) = 0 ∧ win0_1.index t (1 : Fin 2) = 0 ∧ win0_2.index t (0 : Fin 2) = 0 ∧
    win0_2.index t (1 : Fin 2) = 0 ∧ win0_3.index t (0 : Fin 2) = 0 ∧ win0_3.index t (1 : Fin 2) = 0 :=
  (by decide +kernel : ∀ t : Fin grid0.N, _)

/-- Query `q` of point `t`'s block. -/
theorem block0_at (t : Fin cfg0.N) (q : Fin 256) (k : Fin 128) (h : t.val * 256 + q.val < 4096) :
    (iblk m c 0 t : FVec Ideal S256x128 .f32) (ix2 q k) = argX m c (ix2 ⟨t.val * 256 + q.val, h⟩ k) := by
  obtain ⟨e0, e1, -⟩ := windows_at t
  show V m c main_arg0 (((cfg0.win 0).blk t).view.emb (ix2 q k)) = _
  rw [V_main_arg0]
  refine congrArg (argX m c) (funext fun a => Fin.ext ?_)
  match a with
  | ⟨0, _⟩ => show win0_0.index t (0 : Fin 2) * 256 + 1 * q.val = t.val * 256 + q.val; rw [e0, Nat.one_mul]
  | ⟨1, _⟩ => show win0_0.index t (1 : Fin 2) * 128 + 1 * k.val = k.val; rw [e1]; omega

/-- Training point `j`, transposed. -/
theorem block1_at (t : Fin cfg0.N) (k : Fin 128) (j : Fin 16384) :
    (iblk m c 1 t : FVec Ideal S128x16384 .f32) (ix2 k j) = argT m c (ix2 j k) := by
  obtain ⟨-, -, e0, e1, -⟩ := windows_at t
  have h : (iblk m c 1 t : FVec Ideal S128x16384 .f32) (ix2 k j) = (V m c main_v0 : FVec Ideal S128x16384 .f32) (ix2 k j) := by
    refine congrArg (V m c main_v0 : FVec Ideal S128x16384 .f32) (funext fun a => Fin.ext ?_)
    match a with
    | ⟨0, _⟩ => show win0_1.index t (0 : Fin 2) * 128 + 1 * k.val = k.val; rw [e0]; omega
    | ⟨1, _⟩ => show win0_1.index t (1 : Fin 2) * 16384 + 1 * j.val = j.val; rw [e1]; omega
  rw [h, found_v0]
  pointwise []

/-- The table's row `j`. -/
theorem block2_at (t : Fin cfg0.N) (j : Fin 16384) (o : Fin 17) :
    (iblk m c 2 t : FVec Ideal S16384x17 .f32) (ix2 j o) = if h : o.val < 16 then argY m c (ix2 j ⟨o.val, h⟩) else 1 := by
  obtain ⟨-, -, -, -, e0, e1, -⟩ := windows_at t
  have h : (iblk m c 2 t : FVec Ideal S16384x17 .f32) (ix2 j o) = (V m c main_v3 : FVec Ideal S16384x17 .f32) (ix2 j o) := by
    refine congrArg (V m c main_v3 : FVec Ideal S16384x17 .f32) (funext fun a => Fin.ext ?_)
    match a with
    | ⟨0, _⟩ => show win0_2.index t (0 : Fin 2) * 16384 + 1 * j.val = j.val; rw [e0]; omega
    | ⟨1, _⟩ => show win0_2.index t (1 : Fin 2) * 17 + 1 * o.val = o.val; rw [e1]; omega
  rw [h, found_v3]
  pointwise []

/-- The log length scales. -/
theorem block3_at (t : Fin cfg0.N) (k : Fin 128) :
    (iblk m c 3 t : FVec Ideal S1x128 .f32) (ix2 0 k) = argW m c (ix1 k) := by
  obtain ⟨-, -, -, -, -, -, e0, e1⟩ := windows_at t
  have h : (iblk m c 3 t : FVec Ideal S1x128 .f32) (ix2 0 k) = (V m c main_v1 : FVec Ideal S1x128 .f32) (ix2 0 k) := by
    refine congrArg (V m c main_v1 : FVec Ideal S1x128 .f32) (funext fun a => Fin.ext ?_)
    match a with
    | ⟨0, _⟩ => show win0_3.index t (0 : Fin 2) * 1 + 1 * 0 = 0; rw [e0]
    | ⟨1, _⟩ => show win0_3.index t (1 : Fin 2) * 128 + 1 * k.val = k.val; rw [e1]; omega
  rw [h, found_v1]
  pointwise []

/-- The squared norm of training point `j`, as the kernel sums it. -/
theorem norms_at (t : Fin cfg0.N) (j : Fin 16384) : k0_pay3 (iblk m c 3 t) (iblk m c 1 t) (ix2 0 j) =
    ∑ k : Fin 128, argT m c (ix2 j k) * argT m c (ix2 j k) * Ideal.exp (Ideal.ofBits .f32 0xC0000000#32 * argW m c (ix1 k)) := by
  rw [k0_pay3_at]
  simp only [block1_at, block3_at]

/-- Every point leaves the squared norms of the training points in the carried row. -/
theorem carried_at (n : Nat) (hn : n < cfg0.N) (j : Fin 16384) : ((outsAt0 m c n hn).2 : FVec Ideal S1x16384 .f32) (ix2 0 j) =
    ∑ k : Fin 128, argT m c (ix2 j k) * argT m c (ix2 j k) * Ideal.exp (Ideal.ofBits .f32 0xC0000000#32 * argW m c (ix1 k)) := by
  induction n with
  | zero => rw [outA m c ⟨0, hn⟩ rfl]; exact norms_at m c ⟨0, hn⟩ j
  | succ n ih =>
    have h16 : cfg0.N = 16 := N_0
    rw [outB m c ⟨n + 1, hn⟩ (by show ¬(n + 1) % 16 = 0; omega)]
    exact ih (Nat.lt_of_succ_lt hn)

/-- The row of squared norms that point `t` works with. -/
def normsOf (t : Fin cfg0.N) : FVec Ideal S1x16384 .f32 :=
  if t.val % 16 = 0 then k0_pay3 (iblk m c 3 t) (iblk m c 1 t)
  else (outsAt0 m c (t.val - 1) (Nat.lt_of_le_of_lt (Nat.sub_le _ _) t.isLt)).2

/-- Either way they are the squared norms. -/
theorem normsOf_at (t : Fin cfg0.N) (j : Fin 16384) : normsOf m c t (ix2 0 j) =
    ∑ k : Fin 128, argT m c (ix2 j k) * argT m c (ix2 j k) * Ideal.exp (Ideal.ofBits .f32 0xC0000000#32 * argW m c (ix1 k)) := by
  unfold normsOf
  split
  · exact norms_at m c t j
  · exact carried_at m c _ _ j

/-- The inverse distances of point `t`'s block. -/
def distOf (t : Fin cfg0.N) : FVec Ideal S256x16384 .f32 :=
  k0_pay4 (iblk m c 3 t) (iblk m c 0 t) (iblk m c 1 t) (normsOf m c t)

/-- They are the kernel's inverse distances of the block's queries. -/
theorem distOf_at (t : Fin cfg0.N) (q : Fin 256) (j : Fin 16384) (h : t.val * 256 + q.val < 4096) :
    distOf m c t (ix2 q j) = kernelDist (fun k => argX m c (ix2 ⟨t.val * 256 + q.val, h⟩ k)) (fun k => argT m c (ix2 j k))
      (fun k => argW m c (ix1 k)) := by
  unfold distOf kernelDist
  rw [k0_pay4_at, normsOf_at]
  simp only [block0_at m c t q _ h, block1_at, block3_at]

/-- The block point `t` writes. -/
theorem outsAt_fst (t : Fin cfg0.N) : (outsAt0 m c t.val t.isLt).1 = blockOut (distOf m c t) (iblk m c 2 t) := by
  unfold distOf normsOf
  by_cases h0 : t.val % 16 = 0
  · rw [outA m c t h0, if_pos h0]
  · rw [outB m c t h0, if_neg h0]

/-- Element (`q`, `o`) of point `t`'s block: the training values weighted by the inverse distances that reach the threshold, over
the sum of those. -/
theorem outsAt_fst_at (t : Fin cfg0.N) (q : Fin 256) (o : Fin 16) :
    ((outsAt0 m c t.val t.isLt).1 : FVec Ideal S256x16 .f32) (ix2 q o) = Ideal.div
      (∑ j : Fin 16384, (if threshold (distOf m c t) (ix2 0 q) ≤ distOf m c t (ix2 q j) then distOf m c t (ix2 q j) else 0) *
        argY m c (ix2 j o))
      (∑ j : Fin 16384, (if threshold (distOf m c t) (ix2 0 q) ≤ distOf m c t (ix2 q j) then distOf m c t (ix2 q j) else 0) * 1) := by
  rw [outsAt_fst, blockOut_at]
  have h16 : ∀ j, Eq (α := EReal) ((iblk m c 2 t : FVec Ideal S16384x17 .f32) (ix2 j 16)) 1 := fun j => by
    rw [block2_at, dif_neg (by decide)]
  have ho : ∀ j, (iblk m c 2 t : FVec Ideal S16384x17 .f32) (ix2 j ⟨o.val, by omega⟩) = argY m c (ix2 j o) := fun j => by
    rw [block2_at, dif_pos o.isLt]
  simp only [h16, ho]

/-- The array the kernel leaves: element (`t * 256 + q`, `o`) is element (`q`, `o`) of point `t`'s block. -/
theorem left_at (t : Fin cfg0.N) (q : Fin 256) (o : Fin 16) (h : t.val * 256 + q.val < 4096) :
    (G4 m c : FVec Ideal S4096x16 .f32) (ix2 ⟨t.val * 256 + q.val, h⟩ o) =
      ((outsAt0 m c t.val t.isLt).1 : FVec Ideal S256x16 .f32) (ix2 q o) := by
  have hp : pt4Of (ix2 ⟨t.val * 256 + q.val, h⟩ o) = t.val := by
    show 1 * ((t.val * 256 + q.val) / 256 - 0) + 1 * (o.val / 16 - 0) = t.val
    omega
  have hl : loc4Of (ix2 ⟨t.val * 256 + q.val, h⟩ o) = ix2 q o := by
    funext a
    refine Fin.ext ?_
    match a with
    | ⟨0, _⟩ => show (t.val * 256 + q.val) % 256 = q.val; omega
    | ⟨1, _⟩ => show o.val % 16 = o.val; omega
  unfold G4
  rw [dif_pos (by rw [hp]; exact t.isLt), hl, outsAt0_sweep, fold0_congr m c _ _ _ _ hp]

end Cert.KernelIdeal.Select

end
-- ==== Proof.RefValue.lean ====
module

public import proofs.«01_k».proof.Proof.Gen.ReferenceIdeal.Run
public import proofs.«01_k».proof.Proof.Top
public import proofs.«01_k».proof.Proof.Algebra
public import Idealize.ShloMosaic.Lib.SortFacts

@[expose] public section

noncomputable section

/-!
  The reference's result at an index, over the extended reals.
-/

namespace Cert.ReferenceIdeal.Select

open Idealize.ShloMosaic Idealize.ShloMosaic.TcCoe Cert.ReferenceIdeal Cert.ReferenceIdeal.Gen
open Cert.KernelIdeal.Select (referenceDist IsLeastHeld Holds holds_of_sorted word_inf)

/-- The reference's table of inverse distances. -/
def dist (x : FVec Ideal S4096x128 .f32) (t : FVec Ideal S16384x128 .f32) (w : FVec Ideal S128 .f32) : FVec Ideal S4096x16384 .f32 :=
  let xs : FVec Ideal S4096x128 .f32 := Host.divf x (broadcastInDim S4096x128 ![0, 1] bcast_S1x128_S4096x128_0_1
    (broadcastInDim S1x128 ![1] bcast_S128_S1x128_1 (Host.exp w)))
  let ts : FVec Ideal S16384x128 .f32 := Host.divf t (broadcastInDim S16384x128 ![0, 1] bcast_S1x128_S16384x128_0_1
    (broadcastInDim S1x128 ![1] bcast_S128_S1x128_1 (Host.exp w)))
  Host.divf (broadcastInDim S4096x16384 ![] bcast_S_S4096x16384 (constant S_ .f32 0x3F800000#32))
    (Host.powf (addf (maximumf (subf (addf
      (broadcastInDim S4096x16384 ![0, 1] bcast_S4096x1_S4096x16384_0_1 (broadcastInDim S4096x1 ![0] bcast_S4096_S4096x1_0
        (Host.reduceAdd (mulf xs xs) (constant S_ .f32 0x00000000#32) reducesTo_S4096x128_S4096_d1 h_S_)))
      (broadcastInDim S4096x16384 ![0, 1] bcast_S1x16384_S4096x16384_0_1 (broadcastInDim S1x16384 ![1] bcast_S16384_S1x16384_1
        (Host.reduceAdd (mulf ts ts) (constant S_ .f32 0x00000000#32) reducesTo_S16384x128_S16384_d1 h_S_))))
      (mulf (broadcastInDim S4096x16384 ![] bcast_S_S4096x16384 (constant S_ .f32 0x40000000#32))
        (Host.dotGeneral dot_S4096x128_S128x16384_S4096x16384_1_0_0_1_n_n none xs
          (transpose S128x16384 [1, 0] ts transposes_S16384x128_S128x16384_1_0))))
      (broadcastInDim S4096x16384 ![] bcast_S_S4096x16384 (constant S_ .f32 0x00000000#32)))
      (broadcastInDim S4096x16384 ![] bcast_S_S4096x16384 (constant S_ .f32 0x358637BD#32)))
      (broadcastInDim S4096x16384 ![] bcast_S_S4096x16384 (constant S_ .f32 0x3F000000#32)))

/-- The sixteen greatest of every row, as the reference sorts them. -/
def greatest (d : FVec Ideal S4096x16384 .f32) : FVec Ideal S4096x16 .f32 :=
  (Host.topK S4096x16 1 (FloatOps.cmpfTotal .gt) d sliceFits_S4096x16384_S4096x16).1

/-- The reference's threshold: the least of the sixteen. -/
def threshold (d : FVec Ideal S4096x16384 .f32) : FVec Ideal S4096 .f32 :=
  Host.reduce FloatOps.minimumf (greatest d) (constant S_ .f32 0x7F800000#32) reducesTo_S4096x16_S4096_d1 h_S_

/-- The reference's weights before they are divided by their sum. -/
def weights (d : FVec Ideal S4096x16384 .f32) : FVec Ideal S4096x16384 .f32 :=
  select (cmpf .oge d (broadcastInDim S4096x16384 ![0, 1] bcast_S4096x1_S4096x16384_0_1
    (broadcastInDim S4096x1 ![0] bcast_S4096_S4096x1_0 (threshold d)))) d
    (broadcastInDim S4096x16384 ![] bcast_S_S4096x16384 (id (constant S_ .f32 0x00000000#32)))

/-- The reference's result of its weights. -/
def result (v : FVec Ideal S4096x16384 .f32) (y : FVec Ideal S16384x16 .f32) : FVec Ideal S4096x16 .f32 :=
  Host.dotGeneral dot_S4096x16384_S16384x16_S4096x16_1_0_0_1_n_n none
    (Host.divf v (broadcastInDim S4096x16384 ![0, 1] bcast_S4096x1_S4096x16384_0_1 (broadcastInDim S4096x1 ![0] bcast_S4096_S4096x1_0
      (Host.reduceAdd v (constant S_ .f32 0x00000000#32) reducesTo_S4096x16384_S4096_d1 h_S_)))) y

set_option maxRecDepth 8192 in
/-- The reference's run leaves this result of its arguments. -/
theorem res_eq (m : (ℓ : Loc nD τ sig) → Buf (Elt Ideal) ℓ) (c : Dev nD) :
    Cert.ReferenceIdeal.Value.res_out0 m c =
      result (weights (dist (m ((c.tc : Thread nD τ).loc main_arg0)) (m ((c.tc : Thread nD τ).loc main_arg1))
        (m ((c.tc : Thread nD τ).loc main_arg3)))) (m ((c.tc : Thread nD τ).loc main_arg2)) := rfl

/-- An inverse distance. -/
theorem dist_at (x : FVec Ideal S4096x128 .f32) (t : FVec Ideal S16384x128 .f32) (w : FVec Ideal S128 .f32) (q : Fin 4096)
    (j : Fin 16384) : dist x t w (ix2 q j) =
      referenceDist (fun k => x (ix2 q k)) (fun k => t (ix2 j k)) (fun k => w (ix1 k)) := by
  pointwise [dist, referenceDist]

/-- A weight: the inverse distance where it reaches the threshold. -/
theorem weights_at (d : FVec Ideal S4096x16384 .f32) (q : Fin 4096) (j : Fin 16384) :
    weights d (ix2 q j) = if threshold d (ix1 q) ≤ d (ix2 q j) then d (ix2 q j) else 0 := by
  pointwise [weights, id]

/-- A result: the training values weighted by the weights divided by their sum. -/
theorem result_at (v : FVec Ideal S4096x16384 .f32) (y : FVec Ideal S16384x16 .f32) (q : Fin 4096) (o : Fin 16) :
    result v y (ix2 q o) = ∑ j : Fin 16384, Ideal.div (v (ix2 q j)) (∑ i : Fin 16384, v (ix2 q i)) * y (ix2 j o) := by
  pointwise [result]

/-- The position the reference's sort of row `q` takes its `i`-th value from. -/
def source (d : FVec Ideal S4096x16384 .f32) (q : Fin 4096) : Fin 16384 → Fin 16384 :=
  sortedFrom fun k k' => FloatOps.cmpfTotal .gt (d (ix2 q k)) (d (ix2 q k')) == 1#1

/-- A row's position replaced along the lanes. -/
theorem along_at (q : Fin 4096) (i : Fin 16384) (h : 1 < S4096x16384.rank) (k : Fin (S4096x16384.size ⟨1, h⟩)) :
    Shape.Idx.along (s := S4096x16384) (ix2 q i) ⟨1, h⟩ k = ix2 q k := by
  unfold Shape.Idx.along
  funext e
  match e with
  | ⟨0, _⟩ => exact Function.update_of_ne (fun h => absurd (congrArg Fin.val h) Nat.zero_ne_one) _ _
  | ⟨1, _⟩ => exact Function.update_self _ _ _

/-- The sorted values, read at their sources. -/
theorem greatest_at (d : FVec Ideal S4096x16384 .f32) (q : Fin 4096) (i : Fin 16) :
    greatest d (ix2 q i) = d (ix2 q (source d q (i.castLE (by omega)))) := by
  have e : greatest d (ix2 q i) = (Host.sort2 S4096x16384 1 (fun l r => FloatOps.cmpfTotal .gt l.1 r.1) d
      (iotaInDim S4096x16384 32 1)).1 (ix2 q (i.castLE (by omega))) :=
    congrArg (Host.sort2 S4096x16384 1 (fun l r => FloatOps.cmpfTotal .gt l.1 r.1) d (iotaInDim S4096x16384 32 1)).1
      (funext fun a => Fin.ext (match a with
        | ⟨0, _⟩ => Nat.zero_add _
        | ⟨1, _⟩ => Nat.zero_add _))
  rw [e]
  unfold Host.sort2
  rw [dif_pos (by decide)]
  simp only [along_at]
  rfl

/-- The reference's sort puts a row in descending order. -/
theorem antitone_source (d : FVec Ideal S4096x16384 .f32) (q : Fin 4096) :
    Antitone fun i => (d (ix2 q (source d q i)) : EReal) := by
  have hgt : ∀ a b : EReal, (FloatOps.cmpfTotal (F := Ideal) (φ := .f32) .gt a b == 1#1) = decide (b < a) := fun a b => by
    show (Ideal.cmp .ogt a b == 1#1) = _
    unfold Ideal.cmp
    by_cases h : b < a <;> simp [h]
  refine antitone_iff_forall_lt.mpr fun i j hij => ?_
  have h := sortedFrom_noInversion (fun k k' => FloatOps.cmpfTotal .gt (d (ix2 q k)) (d (ix2 q k')) == 1#1)
    (fun k k' => FloatOps.cmpfTotal .gt (d (ix2 q k)) (d (ix2 q k')) == 1#1)
    (fun a b hab => by rw [hgt] at hab ⊢; exact decide_eq_false (of_decide_eq_true hab).not_gt) (fun a b hab => hab)
    (fun a b c hab hbc => by
      rw [hgt] at hab hbc ⊢
      exact decide_eq_false (not_lt.mpr ((not_lt.mp (of_decide_eq_false hab)).trans (not_lt.mp (of_decide_eq_false hbc)))))
    i j hij
  rw [hgt] at h
  exact not_lt.mp (of_decide_eq_false h)

/-- The reference's sixteen values hold the sixteen greatest of the row. -/
theorem holds_greatest (d : FVec Ideal S4096x16384 .f32) (q : Fin 4096) :
    Holds (fun i => (greatest d (ix2 q i) : EReal)) (List.ofFn fun j => (d (ix2 q j) : EReal)) := by
  have key := holds_of_sorted (n := 16384) (by omega) (fun j => (d (ix2 q j) : EReal)) (source d q)
    ⟨sortedFrom_injective _, sortedFrom_surjective _⟩ (antitone_source d q)
  rw [show (fun i => (greatest d (ix2 q i) : EReal)) = _ from funext fun i => greatest_at d q i]
  exact key

/-- The threshold is the sixteenth greatest inverse distance of the row. -/
theorem threshold_at (d : FVec Ideal S4096x16384 .f32) (q : Fin 4096) :
    IsLeastHeld (threshold d (ix1 q) : EReal) (List.ofFn fun j => (d (ix2 q j) : EReal)) := by
  have h : threshold d (ix1 q) =
      Finset.fold min (Ideal.ofBits .f32 0x7F800000#32) (fun i => greatest d (ix2 q i)) (Finset.univ : Finset (Fin 16)) := by
    pointwise [threshold]
  refine ⟨_, holds_greatest d q, h.trans (le_antisymm ?_ ?_)⟩
  · exact (Finset.fold_min_le _).mpr (Or.inr ⟨15, Finset.mem_univ _, le_rfl⟩)
  · refine Finset.le_fold_min _ |>.mpr ⟨?_, fun i _ => (holds_greatest d q).1 (Fin.le_last i)⟩
    rw [word_inf]
    exact le_top

end Cert.ReferenceIdeal.Select

end
-- ==== Proof.Join.lean ====
module

public import proofs.«01_k».proof.Proof.Arrays
public import proofs.«01_k».proof.Proof.Threshold
public import proofs.«01_k».proof.Proof.RefValue

@[expose] public section

noncomputable section

/-!
  The two sides side by side.
-/

namespace Cert.KernelIdeal.Select

open Idealize.ShloMosaic Idealize.ShloMosaic.TcCoe Idealize.SL.Sem
open Cert.KernelIdeal Cert.KernelIdeal.Gen Cert.KernelIdeal.Value

/-- Two rows of equal positive reals, each kept where it reaches its own sixteenth greatest entry: the sum of the values
weighted by the one, over the weights' sum, is the sum of the values weighted by the other normalized. -/
theorem averages_eq {n : Nat} {d e y : Fin n → EReal} {s u : EReal} (hs : IsLeastHeld s (List.ofFn d))
    (hu : IsLeastHeld u (List.ofFn e)) (h : ∀ j, ∃ r : ℝ, 0 < r ∧ d j = (r : EReal) ∧ e j = (r : EReal)) :
    Ideal.div (∑ j, (if s ≤ d j then d j else 0) * y j) (∑ j, (if s ≤ d j then d j else 0) * 1) =
      ∑ j, Ideal.div (if u ≤ e j then e j else 0) (∑ i, if u ≤ e i then e i else 0) * y j := by
  choose r h0 hd he using h
  obtain rfl : d = fun j => (r j : EReal) := funext hd
  obtain rfl : e = fun j => (r j : EReal) := funext he
  obtain rfl : s = u := hs.unique hu
  have hk : ∀ j, (if s ≤ (r j : EReal) then (r j : EReal) else 0) = ((if s ≤ (r j : EReal) then r j else 0 : ℝ) : EReal) :=
    fun j => by split <;> rfl
  simp only [hk]
  refine weights_eq (fun j => if s ≤ (r j : EReal) then r j else 0) y (fun j => ?_) ?_
  · show 0 ≤ if s ≤ (r j : EReal) then r j else 0
    split
    · exact (h0 j).le
    · exact le_rfl
  · obtain ⟨j, hj⟩ := List.mem_ofFn.mp hs.mem
    refine ⟨j, ?_⟩
    show 0 < if s ≤ (r j : EReal) then r j else 0
    rw [if_pos hj.symm.le]
    exact h0 j

variable (m : (ℓ : Loc nD τ sig) → Buf (Elt Ideal) ℓ) (c : Dev nD)

/-- Where the queries and the training points are real and no log length scale is minus infinity, the kernel leaves the
reference's result. -/
theorem left_eq (hx : ∀ i, (argX m c i : EReal) ≠ ⊤ ∧ (argX m c i : EReal) ≠ ⊥)
    (ht : ∀ i, (argT m c i : EReal) ≠ ⊤ ∧ (argT m c i : EReal) ≠ ⊥) (hw : ∀ i, (argW m c i : EReal) ≠ ⊥) :
    (G4 m c : FVec Ideal S4096x16 .f32) = Cert.ReferenceIdeal.Select.result
      (Cert.ReferenceIdeal.Select.weights (Cert.ReferenceIdeal.Select.dist (argX m c) (argT m c) (argW m c))) (argY m c) := by
  have hN : cfg0.N = 16 := N_0
  funext i
  obtain ⟨Q, o, rfl⟩ : ∃ (Q : Fin 4096) (o : Fin 16), i = ix2 Q o :=
    ⟨i 0, i 1, funext fun a => match a with | ⟨0, _⟩ => rfl | ⟨1, _⟩ => rfl⟩
  have hb : Q.val / 256 * 256 + Q.val % 256 < 4096 := by omega
  obtain ⟨t, q, h, rfl⟩ : ∃ (t : Fin cfg0.N) (q : Fin 256) (h : t.val * 256 + q.val < 4096), Q = ⟨t.val * 256 + q.val, h⟩ :=
    ⟨⟨Q.val / 256, by omega⟩, ⟨Q.val % 256, by omega⟩, hb, Fin.ext (by show Q.val = Q.val / 256 * 256 + Q.val % 256; omega)⟩
  rw [left_at, outsAt_fst_at, Cert.ReferenceIdeal.Select.result_at]
  simp only [Cert.ReferenceIdeal.Select.weights_at]
  refine averages_eq (threshold_at (distOf m c t) q) (Cert.ReferenceIdeal.Select.threshold_at _ _) fun j => ?_
  rw [distOf_at m c t q j h, Cert.ReferenceIdeal.Select.dist_at]
  exact dist_eq (fun k => hx _) (fun k => ht _) (fun k => hw _)

end Cert.KernelIdeal.Select

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Given
public import proofs.«01_k».proof.Proof.Join
public import Idealize.ShloMosaic.Adequacy
public import Idealize.ShloMosaic.Init
public import Idealize.ShloMosaic.Lib.Quiescent

@[expose] public section

noncomputable section

namespace Cert.Proof

open Idealize.ShloMosaic Idealize.SL.Sem

/-- The reference ends with its arguments unchanged and no counter raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, the precondition assumed. -/
theorem quiescent_ReferenceIdeal_pre_finite_inputs [Cert.Pre_finite_inputs.Facts] : quiescent_ReferenceIdeal_pre_finite_inputs :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- From arguments the precondition admits, the kernel and the reference leave equal results. -/
theorem algebraic_KernelIdeal_ReferenceIdeal_pre_finite_inputs [Cert.Pre_finite_inputs.Facts] :
    algebraic_KernelIdeal_ReferenceIdeal_pre_finite_inputs := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨px, pt, pw⟩ := hpre c
  obtain ⟨ex, et, ey, ew⟩ := hagree c
  refine (h c).1.trans ((Cert.ReferenceIdeal.Select.res_eq m' c).trans ?_)
  rw [ex, et, ey, ew]
  exact (Cert.KernelIdeal.Select.left_eq m c (Cert.Pre_finite_inputs.queries_real _ _ _ _ px)
    (Cert.Pre_finite_inputs.points_real _ _ _ _ pt) (Cert.Pre_finite_inputs.scales_ne _ _ _ _ pw)).symm

/-- Everything claimed. -/
theorem claim : Cert.Claim := ⟨Cert.Kernel.Gen.facts, Cert.KernelIdeal.Gen.facts, Cert.ReferenceIdeal.Gen.facts,
  Cert.Pre_finite_inputs.facts,
  fun m ρ _ => Cert.Kernel.Gen.frame m ρ, fun m ρ _ => Cert.KernelIdeal.Gen.frame m ρ, fun m ρ _ => Cert.KernelIdeal.Gen.frame m ρ,
  quiescent_ReferenceIdeal, @quiescent_ReferenceIdeal_pre_finite_inputs Cert.Pre_finite_inputs.facts,
  (trivial : preserves_Kernel_KernelIdeal),
  @algebraic_KernelIdeal_ReferenceIdeal_pre_finite_inputs Cert.Pre_finite_inputs.facts⟩

end Cert.Proof

end
